-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_do_not_wrap [hPre_lengths_do_not_wrap : Cert.Pre_lengths_do_not_wrap.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_do_not_wrap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_do_not_wrap [hPre_lengths_do_not_wrap : Cert.Pre_lengths_do_not_wrap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_do_not_wrap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_lengths_do_not_wrap [hKernelIdeal : Cert.KernelIdeal.Facts] [hPre_lengths_do_not_wrap : Cert.Pre_lengths_do_not_wrap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_do_not_wrap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_lengths_do_not_wrap [hReferenceIdeal : Cert.ReferenceIdeal.Facts] [hPre_lengths_do_not_wrap : Cert.Pre_lengths_do_not_wrap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_do_not_wrap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_lengths_do_not_wrap [hKernelIdeal : Cert.KernelIdeal.Facts] [hReferenceIdeal : Cert.ReferenceIdeal.Facts] [hPre_lengths_do_not_wrap : Cert.Pre_lengths_do_not_wrap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_do_not_wrap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_lengths_do_not_wrap : Cert.Pre_lengths_do_not_wrap.Facts),
    quiescent_Kernel (hKernel := hKernel)
    ∧ quiescent_KernelIdeal (hKernelIdeal := hKernelIdeal)
    ∧ quiescent_KernelIdeal_pre_lengths_do_not_wrap (hKernelIdeal := hKernelIdeal) (hPre_lengths_do_not_wrap := hPre_lengths_do_not_wrap)
    ∧ quiescent_ReferenceIdeal (hReferenceIdeal := hReferenceIdeal)
    ∧ quiescent_ReferenceIdeal_pre_lengths_do_not_wrap (hReferenceIdeal := hReferenceIdeal) (hPre_lengths_do_not_wrap := hPre_lengths_do_not_wrap)
    ∧ preserves_Kernel_KernelIdeal
    ∧ algebraic_KernelIdeal_ReferenceIdeal_pre_lengths_do_not_wrap (hKernelIdeal := hKernelIdeal) (hReferenceIdeal := hReferenceIdeal) (hPre_lengths_do_not_wrap := hPre_lengths_do_not_wrap)
-- ==== Pre_lengths_do_not_wrap.lean ====
abbrev S16x128 : Shape := ⟨2, ![16, 128]⟩
abbrev S16x4096x64 : Shape := ⟨3, ![16, 4096, 64]⟩
abbrev S16 : Shape := ⟨1, ![16]⟩
abbrev S64x64 : Shape := ⟨2, ![64, 64]⟩
abbrev S128x192 : Shape := ⟨2, ![128, 192]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x128 .f32) (main_arg1 : FVec F S16x4096x64 .f32) (main_arg2 : IVec S16 32) (main_arg3 : FVec F S64x64 .f32) (main_arg4 : FVec F S64x64 .f32) (main_arg5 : FVec F S64x64 .f32) (main_arg6 : FVec F S128x192 .f32) (main_arg7 : FVec F S128 .f32) (main_arg8 : FVec F S1x128 .f32) (main_arg9 : FVec F S1 .f32) : IVec S16 1 :=
  let main_c : IVec S_ 32 := constantI S_ 32 2147482624#32
  let main_v0 : IVec S16 32 := broadcastInDim S16 ![] bcast_S_S16 main_c
  let main_v1 : IVec S16 1 := cmpi .sle main_arg2 main_v0
  main_v1
-- ==== Kernel.lean ====
abbrev S16x128 : Shape := ⟨2, ![16, 128]⟩
abbrev S16x4096x64 : Shape := ⟨3, ![16, 4096, 64]⟩
abbrev S16 : Shape := ⟨1, ![16]⟩
abbrev S64x64 : Shape := ⟨2, ![64, 64]⟩
abbrev S128x192 : Shape := ⟨2, ![128, 192]⟩
abbrev S128 : Shape := ⟨1, ![128]⟩
abbrev S1x128 : Shape := ⟨2, ![1, 128]⟩
abbrev S1 : Shape := ⟨1, ![1]⟩
abbrev S128x128 : Shape := ⟨2, ![128, 128]⟩
abbrev S128x64 : Shape := ⟨2, ![128, 64]⟩
abbrev S128x1 : Shape := ⟨2, ![128, 1]⟩
abbrev S1x1 : Shape := ⟨2, ![1, 1]⟩
abbrev S16x1 : Shape := ⟨2, ![16, 1]⟩
abbrev S1x1024x64 : Shape := ⟨3, ![1, 1024, 64]⟩
abbrev S16x64 : Shape := ⟨2, ![16, 64]⟩
abbrev S1x64 : Shape := ⟨2, ![1, 64]⟩
abbrev S1x256x64 : Shape := ⟨3, ![1, 256, 64]⟩
abbrev S256x64 : Shape := ⟨2, ![256, 64]⟩
abbrev S64 : Shape := ⟨1, ![64]⟩

abbrev nBuf : Space → Nat
  | .hbm => 17
  | .vmem => 13
  | .smem => 1
  | _ => 0

abbrev bufTy : (tb : Table) → Fin (tcTables nBuf tb) → BufTy
  | .hbm, ⟨0, _⟩ => ⟨S16x128, .f32⟩
  | .hbm, ⟨1, _⟩ => ⟨S16x4096x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S128x192, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S64x64, .bf16⟩
  | .hbm, ⟨10, _⟩ => ⟨S64x64, .bf16⟩
  | .hbm, ⟨11, _⟩ => ⟨S128x128, .f32⟩
  | .hbm, ⟨12, _⟩ => ⟨S128x64, .f32⟩
  | .hbm, ⟨13, _⟩ => ⟨S1x128, .f32⟩
  | .hbm, ⟨14, _⟩ => ⟨S128x1, .f32⟩
  | .hbm, ⟨15, _⟩ => ⟨S1x1, .f32⟩
  | .hbm, ⟨16, _⟩ => ⟨S16x1, .f32⟩
  | .local _ .vmem, ⟨0, _⟩ => ⟨S1x1024x64, .f32⟩
  | .local _ .vmem, ⟨1, _⟩ => ⟨S1x1024x64, .f32⟩
  | .local _ .vmem, ⟨2, _⟩ => ⟨S64x64, .bf16⟩
  | .local _ .vmem, ⟨3, _⟩ => ⟨S64x64, .bf16⟩
  | .local _ .vmem, ⟨4, _⟩ => ⟨S16x128, .f32⟩
  | .local _ .vmem, ⟨5, _⟩ => ⟨S64x64, .f32⟩
  | .local _ .vmem, ⟨6, _⟩ => ⟨S128x128, .f32⟩
  | .local _ .vmem, ⟨7, _⟩ => ⟨S128x64, .f32⟩
  | .local _ .vmem, ⟨8, _⟩ => ⟨S1x128, .f32⟩
  | .local _ .vmem, ⟨9, _⟩ => ⟨S128x1, .f32⟩
  | .local _ .vmem, ⟨10, _⟩ => ⟨S1x1, .f32⟩
  | .local _ .vmem, ⟨11, _⟩ => ⟨S16x1, .f32⟩
  | .local _ .vmem, ⟨12, _⟩ => ⟨S16x64, .f32⟩
  | .local _ .smem, ⟨0, _⟩ => ⟨S16, .i32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_off2 (i : grid0.Coords) : Fin 2 → Nat :=
  let arg0 : BitVec 32 := BitVec.ofNat 32 (i 0).val
  let v40 : Index := Scalar.indexCast arg0
  let c0 : Index := 0#32
  ![v40.toNat, 0]
def k0_off3 (i : grid0.Coords) : Fin 2 → Nat :=
  let arg0 : BitVec 32 := BitVec.ofNat 32 (i 0).val
  let v108 : Index := Scalar.indexCast arg0
  let c0_57 : Index := 0#32
  ![v108.toNat, 0]
def k0_off4 (i : grid0.Coords) : Fin 2 → Nat :=
  let arg0 : BitVec 32 := BitVec.ofNat 32 (i 0).val
  let v144 : Index := Scalar.indexCast arg0
  let c0_66 : Index := 0#32
  ![v144.toNat, 0]
def k0_cond4 (i : grid0.Coords) : BitVec 1 :=
  let arg0 : BitVec 32 := BitVec.ofNat 32 (i 0).val
  let c15_i32 : BitVec 32 := 15#32
  let v34 : BitVec 1 := Scalar.cmpi .eq arg0 c15_i32
  let arg1 : BitVec 32 := BitVec.ofNat 32 (i 1).val
  let c3_i32 : BitVec 32 := 3#32
  let v35 : BitVec 1 := Scalar.cmpi .eq arg1 c3_i32
  let v36 : BitVec 1 := Scalar.andi v34 v35
  let v37 : BitVec 32 := Scalar.extui v36
  let c0_i32_12 : BitVec 32 := 0#32
  let v38 : BitVec 1 := Scalar.cmpi .ne v37 c0_i32_12
  v38

def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S16x128 : Shape := ⟨2, ![16, 128]⟩
abbrev S16x4096x64 : Shape := ⟨3, ![16, 4096, 64]⟩
abbrev S16 : Shape := ⟨1, ![16]⟩
abbrev S64x64 : Shape := ⟨2, ![64, 64]⟩
abbrev S128x192 : Shape := ⟨2, ![128, 192]⟩
abbrev S128 : Shape := ⟨1, ![128]⟩
abbrev S1x128 : Shape := ⟨2, ![1, 128]⟩
abbrev S1 : Shape := ⟨1, ![1]⟩
abbrev S_ : Shape := ⟨0, ![]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S16x64 : Shape := ⟨2, ![16, 64]⟩
abbrev S16x192 : Shape := ⟨2, ![16, 192]⟩
abbrev S192x128 : Shape := ⟨2, ![192, 128]⟩
abbrev S128x1 : Shape := ⟨2, ![128, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x4096x64, .f32⟩
  | .hbm, ⟨2, _⟩ => ⟨S16, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S128x192, .f32⟩
  | .hbm, ⟨7, _⟩ => ⟨S128, .f32⟩
  | .hbm, ⟨8, _⟩ => ⟨S1x128, .f32⟩
  | .hbm, ⟨9, _⟩ => ⟨S1, .f32⟩
  | .hbm, ⟨10, _⟩ => ⟨S16x4096x64, .f32⟩
  | .hbm, ⟨11, _⟩ => ⟨S_, .f32⟩
  | .hbm, ⟨12, _⟩ => ⟨S16x4096x64, .f32⟩
  | .hbm, ⟨13, _⟩ => ⟨S16x4096x64, .f32⟩
  | .hbm, ⟨14, _⟩ => ⟨S16x4096x64, .f32⟩
  | .hbm, ⟨15, _⟩ => ⟨S_, .f32⟩
  | .hbm, ⟨16, _⟩ => ⟨S16x4096x64, .f32⟩
  | .hbm, ⟨17, _⟩ => ⟨S16x4096x64, .f32⟩
  | .hbm, ⟨18, _⟩ => ⟨S4096, .i32⟩
  | .hbm, ⟨19, _⟩ => ⟨S1x4096, .i32⟩
  | .hbm, ⟨20, _⟩ => ⟨S16x1, .i32⟩
  | .hbm, ⟨21, _⟩ => ⟨S16x4096, .i32⟩
  | .hbm, ⟨22, _⟩ => ⟨S16x4096, .i32⟩
  | .hbm, ⟨23, _⟩ => ⟨S16x4096, .i1⟩
  | .hbm, ⟨24, _⟩ => ⟨S16x4096, .f32⟩
  | .hbm, ⟨25, _⟩ => ⟨S16x4096x1, .f32⟩
  | .hbm, ⟨26, _⟩ => ⟨S16x4096x64, .f32⟩
  | .hbm, ⟨27, _⟩ => ⟨S16x4096x64, .f32⟩
  | .hbm, ⟨28, _⟩ => ⟨S_, .f32⟩
  | .hbm, ⟨29, _⟩ => ⟨S16x64, .f32⟩
  | .hbm, ⟨30, _⟩ => ⟨S64x64, .f32⟩
  | .hbm, ⟨31, _⟩ => ⟨S16x64, .f32⟩
  | .hbm, ⟨32, _⟩ => ⟨S_, .f32⟩
  | .hbm, ⟨33, _⟩ => ⟨S16x64, .f32⟩
  | .hbm, ⟨34, _⟩ => ⟨S16x64, .f32⟩
  | .hbm, ⟨35, _⟩ => ⟨S16x192, .f32⟩
  | .hbm, ⟨36, _⟩ => ⟨S192x128, .f32⟩
  | .hbm, ⟨37, _⟩ => ⟨S16x128, .f32⟩
  | .hbm, ⟨38, _⟩ => ⟨S1x128, .f32⟩
  | .hbm, ⟨39, _⟩ => ⟨S16x128, .f32⟩
  | .hbm, ⟨40, _⟩ => ⟨S16x128, .f32⟩
  | .hbm, ⟨41, _⟩ => ⟨S_, .f32⟩
  | .hbm, ⟨42, _⟩ => ⟨S16x128, .f32⟩
  | .hbm, ⟨43, _⟩ => ⟨S16x128, .f32⟩
  | .hbm, ⟨44, _⟩ => ⟨S128x1, .f32⟩
  | .hbm, ⟨45, _⟩ => ⟨S16x1, .f32⟩
  | .hbm, ⟨46, _⟩ => ⟨S1x1, .f32⟩
  | .hbm, ⟨47, _⟩ => ⟨S16x1, .f32⟩
  | .hbm, ⟨48, _⟩ => ⟨S16x1, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_call1_cst : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call3_cst : Ref sig .tc := ⟨.hbm, 41, rfl⟩
abbrev main_call3_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Proof.Pool.Same.lean ====
/-
  The kernel and its idealized form are one program: no operation was replaced.
-/
module

public import proofs.«01_k».proof.Defs
public import proofs.«01_k».proof.Proof.Gen.Kernel
public import proofs.«01_k».proof.Proof.Gen.KernelIdeal

@[expose] public section

set_option maxRecDepth 65536
set_option maxHeartbeats 4000000

noncomputable section

namespace Cert.Pool

open Idealize.ShloMosaic Idealize.ShloMosaic.TcCoe

variable {F : FTy → Type} [FloatOps F]

/-- The grid's bodies are the same program. -/
theorem body_same : @Cert.Kernel.cc0__body F _ Cert.Kernel.Gen.facts = @Cert.KernelIdeal.cc0__body F _ Cert.KernelIdeal.Gen.facts := rfl

/-- So are the labelled programs, -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) =>
    show @Cert.Kernel.cc0__body F _ Cert.Kernel.Gen.facts _ _ _ _ _ _ _ _ _ _ _ _ _ _ _ _ _ _ _ _ _ _ _ _ _ _ _ = _
    rw [body_same]
    rfl

/-- the table of them with the pipeline's, -/
theorem defs_same : @Cert.Kernel.defs F _ Cert.Kernel.Gen.facts = @Cert.KernelIdeal.defs F _ Cert.KernelIdeal.Gen.facts :=
  congrArg (Pipeline.defs (@Cert.KernelIdeal.pcfgs F _ Cert.KernelIdeal.Gen.facts)) defs₀_same

/-- and the main functions. -/
theorem main_same : @Cert.Kernel.main F _ Cert.Kernel.Gen.facts = @Cert.KernelIdeal.main F _ Cert.KernelIdeal.Gen.facts := rfl

end Cert.Pool

end
-- ==== Proof.Pool.Words.lean ====
/-
  The arithmetic of the length words.

  A length `n` is a 32-bit word. The kernel counts the blocks of 1024 rows that hold a live row by the
  floor division `(n + 1024 - 1) // 1024`, and compares block indices with that count. This module
  reads those comparisons as statements about the signed value of `n`.
-/
module

public import Idealize.ShloMosaic.PureOps
public import Idealize.ShloMosaic.Lib.WordArith
public import Idealize.ShloMosaic.Lib.WordCmp

@[expose] public section

namespace Cert.Pool

open Idealize.ShloMosaic

/-- The number of blocks that hold a live row, as the kernel computes it: the quotient of `n + 1023` by 1024
rounded towards zero, less one where the signs differ and the remainder is not zero. -/
def blocks (n : BitVec 32) : BitVec 32 :=
  let a := Scalar.subi (Scalar.addi n 1024#32) 1#32
  let q := Scalar.divsi a 1024#32
  let sa := Scalar.subi (Scalar.extui (Scalar.cmpi .sgt a 0#32)) (Scalar.extui (Scalar.cmpi .slt a 0#32))
  let sb := Scalar.subi (Scalar.extui (Scalar.cmpi .sgt 1024#32 0#32)) (Scalar.extui (Scalar.cmpi .slt 1024#32 0#32))
  Scalar.select (Scalar.andi (Scalar.cmpi .ne sa sb) (Scalar.cmpi .ne (Scalar.remsi a 1024#32) 0#32))
    (Scalar.subi q 1#32) q

/-- The block index a window of the request rows takes at step `s`: `min(s, max(blocks n - 1, 0))`. -/
def blockAt (s n : BitVec 32) : BitVec 32 :=
  Scalar.minsi s (Scalar.maxsi (Scalar.subi (blocks n) 1#32) 0#32)

/-- A block index lies in `[0, s]`, whatever the length. -/
theorem blockAt_le (s : ℕ) (hs : s < 2 ^ 31) (n : BitVec 32) : (blockAt (BitVec.ofNat 32 s) n).toNat ≤ s := by
  unfold blockAt
  generalize Scalar.subi (blocks n) 1#32 = q
  have hn : (Scalar.maxsi q 0#32).toNat < 2 ^ 31 := by
    have e := BitVec.toInt_eq_toNat_cond q
    have := q.isLt
    unfold Scalar.maxsi IntOp.maxsi
    split
    · rename_i h
      rw [BitVec.slt_iff_toInt_lt, BitVec.toInt_zero] at h
      split at e <;> omega
    · decide
  have e1 : (BitVec.ofNat 32 s).toNat = s := by rw [BitVec.toNat_ofNat]; omega
  show (IntOp.minsi _ _).toNat ≤ s
  rw [WordArith.toNat_minsi_of_lt _ _ (by rw [e1]; exact hs) hn, e1]
  exact Nat.min_le_left _ _

/-- The sign of a word, as the kernel takes it, differs from the sign of 1024 exactly where the word is not positive. -/
theorem sign_ne (a : BitVec 32) :
    Scalar.cmpi .ne (Scalar.subi (Scalar.extui (Scalar.cmpi .sgt a 0#32)) (Scalar.extui (Scalar.cmpi .slt a 0#32)))
      (Scalar.subi (Scalar.extui (Scalar.cmpi .sgt 1024#32 0#32)) (Scalar.extui (Scalar.cmpi .slt 1024#32 0#32)))
      = BitVec.ofBool (decide (a.toInt ≤ 0)) := by
  have e1 : Scalar.cmpi .sgt a 0#32 = BitVec.ofBool (decide (0 < a.toInt)) := by
    simp only [Scalar.cmpi, IntOp.cmpi, BitVec.slt, BitVec.toInt_zero]
  have e2 : Scalar.cmpi .slt a 0#32 = BitVec.ofBool (decide (a.toInt < 0)) := by
    simp only [Scalar.cmpi, IntOp.cmpi, BitVec.slt, BitVec.toInt_zero]
  rw [e1, e2]
  rcases lt_trichotomy a.toInt 0 with h | h | h
  · rw [decide_eq_false (by omega), decide_eq_true h, decide_eq_true (by omega)]; decide
  · rw [decide_eq_false (by omega), decide_eq_false (by omega), decide_eq_true (by omega)]; decide
  · rw [decide_eq_true h, decide_eq_false (by omega), decide_eq_false (by omega)]; decide

/-- The number a quotient rounded towards zero becomes when one is taken off it where the dividend is not positive and
the division is not exact: the floor. -/
theorem floor_of_trunc (a : ℤ) :
    (if a ≤ 0 ∧ a.tmod 1024 ≠ 0 then a.tdiv 1024 - 1 else a.tdiv 1024) = a / 1024 := by
  rcases Int.le_total 0 a with h | h
  · rw [Int.tdiv_eq_ediv_of_nonneg h, Int.tmod_eq_emod_of_nonneg h]
    split <;> omega
  · have e1 : a.tdiv 1024 = -((-a) / 1024) := by
      have e : a.tdiv 1024 = -((-a).tdiv 1024) := by rw [Int.neg_tdiv, neg_neg]
      rw [e, Int.tdiv_eq_ediv_of_nonneg (by omega)]
    have e2 : a.tmod 1024 = -((-a) % 1024) := by
      have e : a.tmod 1024 = -((-a).tmod 1024) := by rw [Int.neg_tmod, neg_neg]
      rw [e, Int.tmod_eq_emod_of_nonneg (by omega)]
    rw [e1, e2]
    split <;> omega

/-- Where `n + 1023` does not wrap, the kernel's count of blocks is the floor of `(n + 1023) / 1024`. -/
theorem toInt_blocks (n : BitVec 32) (h : n.toInt ≤ 2147482624) :
    (blocks n).toInt = (n.toInt + 1023) / 1024 := by
  have hl := BitVec.le_toInt n
  have k : (1024#32).toInt = 1024 := by decide
  have k3 : (1023#32).toInt = 1023 := by decide
  have ea : Scalar.subi (Scalar.addi n 1024#32) 1#32 = n + 1023#32 := by
    show n + 1024#32 - 1#32 = n + 1023#32
    rw [BitVec.sub_eq_add_neg, BitVec.add_assoc]
    rfl
  have ia : (n + 1023#32).toInt = n.toInt + 1023 := by
    rw [WordArith.toInt_add_of_bounds _ _ (by omega) (by omega), k3]
  unfold blocks
  dsimp only
  rw [ea, sign_ne]
  have hc : ¬ IntOp.SDivCorner (n + 1023#32) 1024#32 := by
    rintro (h0 | ⟨-, h0⟩) <;> exact absurd h0 (by decide)
  have hq : Scalar.divsi (n + 1023#32) 1024#32 = (n + 1023#32).sdiv 1024#32 := if_neg hc
  have hr : Scalar.remsi (n + 1023#32) 1024#32 = (n + 1023#32).srem 1024#32 := if_neg hc
  rw [hq, hr]
  have iq : ((n + 1023#32).sdiv 1024#32).toInt = (n.toInt + 1023).tdiv 1024 := by
    rw [BitVec.toInt_sdiv_of_ne_or_ne _ _ (Or.inr (by decide)), ia, k]
  have ir : ((n + 1023#32).srem 1024#32).toInt = (n.toInt + 1023).tmod 1024 := by
    rw [BitVec.toInt_srem, ia, k]
  have er : Scalar.cmpi .ne ((n + 1023#32).srem 1024#32) 0#32
      = BitVec.ofBool (decide ((n.toInt + 1023).tmod 1024 ≠ 0)) := by
    show BitVec.ofBool _ = _
    congr 1
    rw [← ir, ← BitVec.toInt_zero (w := 32)]
    simp only [ne_eq, BitVec.toInt_inj, bne, decide_not]
    rfl
  rw [er, ia]
  show (if IntOp.andi _ _ = 1 then _ else _ : BitVec 32).toInt = _
  rw [WordArith.andi_ofBool, ← floor_of_trunc (n.toInt + 1023)]
  simp only [WordArith.ofBool_eq_numeral_one_iff, Bool.and_eq_true, decide_eq_true_eq]
  split
  · rename_i h0
    have hb : -2097152 ≤ (n.toInt + 1023).tdiv 1024 ∧ (n.toInt + 1023).tdiv 1024 ≤ 1 := by
      have := floor_of_trunc (n.toInt + 1023)
      rw [if_pos h0] at this
      omega
    show (_ - 1#32 : BitVec 32).toInt = _
    have k1 : (1#32).toInt = 1 := by decide
    rw [WordArith.toInt_sub_of_bounds _ _ (by rw [iq, k1]; omega) (by rw [iq, k1]; omega), iq, k1]
  · exact iq

/-- A block index below the count of blocks is one whose first row is live. -/
theorem slt_blocks_iff (s : ℕ) (hs : s < 4) (n : BitVec 32) (h : n.toInt ≤ 2147482624) :
    (BitVec.ofNat 32 s).slt (blocks n) = true ↔ (s : ℤ) * 1024 < n.toInt := by
  rw [BitVec.slt_iff_toInt_lt, toInt_blocks n h, WordArith.toInt_ofNat_small s (by omega)]
  omega

/-- A block index below the count of blocks is the one the window takes. -/
theorem blockAt_eq (s : ℕ) (hs : s < 4) (n : BitVec 32) (h : (BitVec.ofNat 32 s).slt (blocks n) = true) :
    (blockAt (BitVec.ofNat 32 s) n).toNat = s := by
  have e : (BitVec.ofNat 32 s).toNat = s := by rw [BitVec.toNat_ofNat]; omega
  rw [BitVec.slt_iff_toInt_lt, WordArith.toInt_ofNat_small s (by omega)] at h
  have hb := BitVec.toInt_lt (x := blocks n)
  have k1 : (1#32).toInt = 1 := by decide
  have hp : (Scalar.subi (blocks n) 1#32).toInt = (blocks n).toInt - 1 := by
    show (blocks n - 1#32).toInt = _
    rw [WordArith.toInt_sub_of_bounds _ _ (by omega) (by omega), k1]
  have hm : (Scalar.maxsi (Scalar.subi (blocks n) 1#32) 0#32).toInt = (blocks n).toInt - 1 := by
    rw [← hp]
    unfold Scalar.maxsi IntOp.maxsi
    split
    · rfl
    · rename_i h0
      rw [BitVec.slt_iff_toInt_lt, BitVec.toInt_zero, hp] at h0
      rw [hp, BitVec.toInt_zero]
      omega
  unfold blockAt Scalar.minsi IntOp.minsi
  split
  · exact e
  · rename_i h0
    rw [BitVec.slt_iff_toInt_lt, hm, WordArith.toInt_ofNat_small s (by omega)] at h0
    have := BitVec.toInt_eq_toNat_cond (Scalar.maxsi (Scalar.subi (blocks n) 1#32) 0#32)
    split at this <;> omega

end Cert.Pool
-- ==== Proof.Pool.Kit.lean ====
/-
  The launch's set-up: the contents of every buffer when the grid begins, the length table, and the
  pipeline's side condition on it, which holds whatever the lengths are.
-/
module

public import proofs.«01_k».proof.Proof.Gen.KernelIdeal.Launch
public import proofs.«01_k».proof.Proof.Gen.KernelIdeal.Skeleton
public import proofs.«01_k».proof.Proof.Pool.Words
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Pool

open Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the grid begins -/

/-- A buffer of core `c` when the grid begins: after the operations that prepare the weights. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function is the preparing operations, then the grid. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that none of the preparing operations writes is as it was launched. -/
theorem V_of_ne (c : Dev nD) (b : Ref sig .tc)
    (h : (b ≠ main_v0 ∧ b ≠ main_v1 ∧ b ≠ main_v2 ∧ b ≠ main_v3) ∧ b ≠ main_v4 ∧ b ≠ main_v5 ∧ b ≠ main_v6) :
    V m c b = m ((c : Thread nD τ).loc b) :=
  StableHlo.after_of_forall_not_mem (b := Proc.devRef .tc b) _ _ (List.forall_iff_forall_mem.mp (by
    obtain ⟨⟨h0, h1, h2, h3⟩, h4, h5, h6⟩ := h
    simp only [hostOps0, List.flatten_cons, List.flatten_nil, List.append_nil, List.cons_append, List.nil_append,
      List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6⟩))

/-! ## The table of lengths -/

/-- The table's contents when the grid begins; there is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The block of request rows that the window takes at point `i` is `blockAt`, read at the request's length. -/
theorem transform_0_eq (pf : pre0.Contents (Elt F)) (i : grid0.Coords) :
    cc0_transform_0 k0_off1_inb numel1_S1 pf i
      = ![(BitVec.ofNat 32 (i 0).val).toNat,
          (blockAt (BitVec.ofNat 32 (i 1).val)
            (pf.at 0 (Rect.unit (s := S16) (k0_off1 i) S1.size (k0_off1_inb i)) numel1_S1)).toNat, 0] := rfl

/-- Whatever the lengths are, every block of request rows lies inside the array. -/
theorem ok (pf : pre0.Contents (Elt F)) : ok0 pf := by
  intro i
  refine ⟨?_, .inl rfl⟩
  have h0 : (i 0).val < 16 := (i 0).isLt
  have h1 : (i 1).val < 4 := (i 1).isLt
  have e0 : (BitVec.ofNat 32 (i 0).val).toNat = (i 0).val := by rw [BitVec.toNat_ofNat]; omega
  have e1 := blockAt_le (i 1).val (by omega)
    (pf.at 0 (Rect.unit (s := S16) (k0_off1 i) S1.size (k0_off1_inb i)) numel1_S1)
  rw [transform_0_eq]
  intro a
  match a with
  | 0 =>
    show ((BitVec.ofNat 32 (i 0).val).toNat + 1) * 1 ≤ 16
    omega
  | 1 =>
    show ((blockAt _ _).toNat + 1) * 1024 ≤ 4096
    omega
  | 2 =>
    show (0 + 1) * 64 ≤ 64
    omega

/-- The pipeline at the table's contents. -/
abbrev adm : (pcfg0 (F := F)).Adm := ⟨tbl m, ok (tbl m)⟩
abbrev cfgM : Pipeline.Cfg sig Λ₀ := cfg0 (adm m)

/-- The table as the body is handed it. -/
abbrev tbM : Memref sig .tc .smem S16 .i32 := Memref.whole main_arg2
abbrev htbM : tbM.IsWhole := Memref.isWhole_whole _

/-- A table's buffer on core `c`, and half of it held at contents `f`: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The schedule -/

/-- Point `t` of the grid is request `t / 4`, block `t % 4`. -/
theorem coord_0 (t : Fin grid0.N) : (grid0.coords t 0).val = t.val / 4 := by
  have ht : t.val < 64 := Nat.lt_of_lt_of_eq t.isLt N_0
  have e : (grid0.coords t 0).val = t.val / 4 % 16 := Pipeline.Grid.coords_val t 0 (by decide) rfl
  omega
theorem coord_1 (t : Fin grid0.N) : (grid0.coords t 1).val = t.val % 4 := by
  have e : (grid0.coords t 1).val = t.val / 1 % 4 := Pipeline.Grid.coords_val t 1 (by decide) rfl
  omega

/-- The accumulator's row is cleared at a request's first block. -/
theorem cond1_iff (i : grid0.Coords) : k0_cond1 i = 1#1 ↔ (i 1).val = 0 := by
  have h1 : (i 1).val < 4 := (i 1).isLt
  unfold k0_cond1
  word_cmp

/-- The head runs at the last point only. -/
theorem cond4_iff (t : Fin grid0.N) : k0_cond4 (grid0.coords t) = 1#1 ↔ t.val = 63 := by
  have ht : t.val < 64 := Nat.lt_of_lt_of_eq t.isLt N_0
  have e0 := coord_0 t
  have e1 := coord_1 t
  unfold k0_cond4
  simp only [e0, e1]
  word_cmp

/-- The output window is left alone at every other point, and written back at the last. -/
theorem idle_out : ∀ t : Fin grid0.N, ¬ k0_cond4 (grid0.coords t) = 1#1 → idle0 10 (grid0.coords t) = true := by
  intro t h
  show (!(k0_cond4 (grid0.coords t) == 1#1)) = true
  simpa using h
theorem live_out : ∀ t : Fin grid0.N, k0_cond4 (grid0.coords t) = 1#1 → idle0 10 (grid0.coords t) = false := by
  intro t h
  show (!(k0_cond4 (grid0.coords t) == 1#1)) = false
  simpa using h
theorem flush_out (t : Fin grid0.N) : Pipeline.Window.flushOf grid0 true cc0_transform_10 t = true ↔ t.val % 64 = 63 :=
  Pipeline.Window.flushOf_const cc0_transform_10 (fun _ _ => rfl) (n := 64) (by decide) rfl t
theorem noFlush_out (t : Fin grid0.N) (h : ¬ k0_cond4 (grid0.coords t) = 1#1) :
    Pipeline.Window.flushOf grid0 true cc0_transform_10 t = false := by
  rw [cond4_iff] at h
  have ht : t.val < 64 := Nat.lt_of_lt_of_eq t.isLt N_0
  by_contra h'
  exact h (by have := (flush_out t).mp (by simpa using h'); omega)

end Cert.KernelIdeal.Pool

end
-- ==== Proof.Pool.Body.lean ====
/-
  What the body does at one grid point.
-/
module

public import proofs.«01_k».proof.Proof.Pool.Kit

@[expose] public section

set_option maxRecDepth 16384

noncomputable section

namespace Cert.KernelIdeal.Pool

open Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The request's length, read from the table at grid point `i`. -/
abbrev lenAt (c : Dev nD) (i : grid0.Coords) (xt : TbBuf (F := F) c tbM) : BitVec 32 :=
  tbM.view.readAt (Elt F) (Rect.unit (s := S16) (k0_off1 i) S1.size (k0_off1_inb i)).toLoadRect xt
    (Shape.Idx.first (numel1_S1.symm ▸ Nat.one_pos))

/-- Every row of the block is live. -/
abbrev Full (i : grid0.Coords) (n : BitVec 32) : Prop :=
  (Scalar.cmpi .ne (Scalar.extui (Scalar.cmpi .sle
    (Scalar.muli (Scalar.addi (BitVec.ofNat 32 (i 1).val) 1#32) 1024#32) n)) 0#32) = 1#1

/-- Some rows of the block are live and some are not. -/
abbrev Cut (i : grid0.Coords) (n : BitVec 32) : Prop :=
  (Scalar.cmpi .ne (Scalar.extui (Scalar.andi
    (Scalar.xori (Scalar.cmpi .sle (Scalar.muli (Scalar.addi (BitVec.ofNat 32 (i 1).val) 1#32) 1024#32) n) 1#1)
    (Scalar.cmpi .slt (BitVec.ofNat 32 (i 1).val) (blocks n)))) 0#32) = 1#1

section
variable (x0 : Vec F S1x1024x64 .f32) (x1 x2 : Vec F S64x64 .bf16)

/-- Chunk `k` of a block: its 256 rows from row `k`. -/
abbrev chunk (k : Fin 3 → ℕ) (h : ∀ a, k a + S1x256x64.size a ≤ S1x1024x64.size a) : Vec F S1x256x64 .f32 :=
  VecWindow.window x0 k S1x256x64.size h

/-- What a block whose rows are all live adds: its four chunks' sums. -/
def fullSum : FVec F S1x64 .f32 :=
  k0_pay3 (k0_pay2 (chunk x0 ![0, 0, 0] inb_S1x1024x64_S1x256x64_0_0_0) x1 x2 (chunk x0 ![0, 256, 0] inb_S1x1024x64_S1x256x64_0_256_0) x1 x2)
    (chunk x0 ![0, 512, 0] inb_S1x1024x64_S1x256x64_0_512_0) x1 x2 (chunk x0 ![0, 768, 0] inb_S1x1024x64_S1x256x64_0_768_0) x1 x2

/-- The row of the accumulator after a cut block: `row` and its four chunks' masked sums. -/
def cutRow (i : grid0.Coords) (n : BitVec 32) (row : Vec F S1x64 .f32) : FVec F S1x64 .f32 :=
  let a := BitVec.ofNat 32 (i 1).val
  k0_pay12 i n
    (k0_pay6 a n (k0_pay4 a n (chunk x0 ![0, 0, 0] inb_S1x1024x64_S1x256x64_0_0_0) x1 x2)
      (k0_pay5 (chunk x0 ![0, 256, 0] inb_S1x1024x64_S1x256x64_0_256_0) x1) x2)
    (k0_pay7 (chunk x0 ![0, 512, 0] inb_S1x1024x64_S1x256x64_0_512_0) x1 x2) (k0_pay8 (F := F) a n) k0_pay9
    (chunk x0 ![0, 768, 0] inb_S1x1024x64_S1x256x64_0_768_0) x1 x2 row

/-- Row `b` of the accumulator. -/
abbrev rowOf (i : grid0.Coords) (a : Vec F S16x64 .f32) : Vec F S1x64 .f32 :=
  VecWindow.window a (k0_off3 i) S1x64.size (k0_off3_inb i)
/-- The accumulator with row `b` replaced. -/
abbrev setRow (i : grid0.Coords) (a : Vec F S16x64 .f32) (w : Vec F S1x64 .f32) : Vec F S16x64 .f32 :=
  VecWindow.put a (k0_off3 i) S1x64.size w

/-- The accumulator when the block is added: its row cleared at a request's first block. -/
def cleared (i : grid0.Coords) (xs : Vec F S16x64 .f32) : Vec F S16x64 .f32 :=
  if k0_cond1 i = 1#1 then setRow i xs k0_pay10 else xs

/-- The accumulator after the point. -/
def accAfter (i : grid0.Coords) (n : BitVec 32) (xs : Vec F S16x64 .f32) : Vec F S16x64 .f32 :=
  if Full i n then setRow i (cleared i xs) (k0_pay11 (fullSum x0 x1 x2) (rowOf i (cleared i xs)))
  else if Cut i n then setRow i (cleared i xs) (cutRow x0 x1 x2 i n (rowOf i (cleared i xs)))
  else cleared i xs

end

theorem not_full_of_cut {i : grid0.Coords} {n : BitVec 32} (h : Cut i n) : ¬ Full i n := by
  revert h
  unfold Cut Full
  generalize Scalar.cmpi .sle _ _ = p
  generalize Scalar.cmpi .slt _ _ = q
  revert p q
  decide

set_option maxHeartbeats 4000000 in
theorem run (c : Dev nD) (i : grid0.Coords)
    (arg3 : Memref sig .tc .vmem S1x1024x64 .f32) (harg3 : arg3.IsWhole)
    (arg4 : Memref sig .tc .vmem S64x64 .bf16) (harg4 : arg4.IsWhole)
    (arg5 : Memref sig .tc .vmem S64x64 .bf16) (harg5 : arg5.IsWhole)
    (arg6 : Memref sig .tc .vmem S16x128 .f32) (harg6 : arg6.IsWhole)
    (arg7 : Memref sig .tc .vmem S64x64 .f32) (harg7 : arg7.IsWhole)
    (arg8 : Memref sig .tc .vmem S128x128 .f32) (harg8 : arg8.IsWhole)
    (arg9 : Memref sig .tc .vmem S128x64 .f32) (harg9 : arg9.IsWhole)
    (arg10 : Memref sig .tc .vmem S1x128 .f32) (harg10 : arg10.IsWhole)
    (arg11 : Memref sig .tc .vmem S128x1 .f32) (harg11 : arg11.IsWhole)
    (arg12 : Memref sig .tc .vmem S1x1 .f32) (harg12 : arg12.IsWhole)
    (arg13 : Memref sig .tc .vmem S16x1 .f32) (harg13 : arg13.IsWhole)
    (arg14 : Memref sig .tc .vmem S16x64 .f32) (harg14 : arg14.IsWhole)
    (x0 : Vec F S1x1024x64 .f32) (x1 : Vec F S64x64 .bf16) (x2 : Vec F S64x64 .bf16) (x3 : Vec F S16x128 .f32)
    (x4 : Vec F S64x64 .f32) (x5 : Vec F S128x128 .f32) (x6 : Vec F S128x64 .f32) (x7 : Vec F S1x128 .f32)
    (x8 : Vec F S128x1 .f32) (x9 : Vec F S1x1 .f32) (xi : Vec F S16x1 .f32) (xs : Vec F S16x64 .f32)
    (xt : TbBuf (F := F) c tbM) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6 ∗ owns (c : Thread nD τ) arg10 fullShare x7
        ∗ owns (c : Thread nD τ) arg11 fullShare x8 ∗ owns (c : Thread nD τ) arg12 fullShare x9
        ∗ owns (c : Thread nD τ) arg13 fullShare xi ∗ owns (c : Thread nD τ) arg14 fullShare xs ∗ tbPt c tbM xt
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6 ∗ owns (c : Thread nD τ) arg10 fullShare x7
            ∗ owns (c : Thread nD τ) arg11 fullShare x8 ∗ owns (c : Thread nD τ) arg12 fullShare x9
            ∗ owns (c : Thread nD τ) arg13 fullShare
                (if k0_cond4 i = 1#1 then k0_pay1 (accAfter x0 x1 x2 i (lenAt c i xt) xs) x4 x3 x5 x6 x7 x8 x9 else xi)
            ∗ owns (c : Thread nD τ) arg14 fullShare (accAfter x0 x1 x2 i (lenAt c i xt) xs) ∗ tbPt c tbM xt) -∗ K ⟨⟩))
      ⊢ wp frame (wpE (defs₀ (F := F)) Variants.none c none) E
          (cc0__body i tbM htbM arg3 harg3 arg4 harg4 arg5 harg5 arg6 harg6 arg7 harg7 arg8 harg8 arg9 harg9
            arg10 harg10 arg11 harg11 arg12 harg12 arg13 harg13 arg14 harg14) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT, Hk⟩
  -- what each load of an input reads
  have l1 := (View.readAt_full arg4.view f1 (off := ![0, 0]) inb_S64x64_S64x64_0_0).trans hf1
  have l2 := (View.readAt_full arg5.view f2 (off := ![0, 0]) inb_S64x64_S64x64_0_0).trans hf2
  have l3 := (View.readAt_full arg6.view f3 (off := ![0, 0]) inb_S16x128_S16x128_0_0).trans hf3
  have l4 := (View.readAt_full arg7.view f4 (off := ![0, 0]) inb_S64x64_S64x64_0_0).trans hf4
  have l5 := (View.readAt_full arg8.view f5 (off := ![0, 0]) inb_S128x128_S128x128_0_0).trans hf5
  have l6 := (View.readAt_full arg9.view f6 (off := ![0, 0]) inb_S128x64_S128x64_0_0).trans hf6
  have l7 := (View.readAt_full arg10.view f7 (off := ![0, 0]) inb_S1x128_S1x128_0_0).trans hf7
  have l8 := (View.readAt_full arg11.view f8 (off := ![0, 0]) inb_S128x1_S128x1_0_0).trans hf8
  have l9 := (View.readAt_full arg12.view f9 (off := ![0, 0]) inb_S1x1_S1x1_0_0).trans hf9
  have l0 (k : Fin 3 → ℕ) (h : ∀ a, k a + S1x256x64.size a ≤ S1x1024x64.size a) :
      arg3.view.readAt (Elt F) (Rect.unit (s := S1x1024x64) k S1x256x64.size h).toLoadRect f0 = chunk x0 k h := by
    rw [← hf0]; exact View.readAt_unit _ _ _ rfl _
  -- what a load of the accumulator's row, or of the whole of it, reads, and what a store of its row leaves
  have r3 (f) : arg14.view.readAt (Elt F) (Rect.unit (s := S16x64) (k0_off3 i) S1x64.size (k0_off3_inb i)).toLoadRect f
      = rowOf i (arg14.view.read (Elt F) f) := View.readAt_unit _ _ _ rfl _
  have r4 (f) : arg14.view.readAt (Elt F) (Rect.unit (s := S16x64) (k0_off4 i) S1x64.size (k0_off4_inb i)).toLoadRect f
      = rowOf i (arg14.view.read (Elt F) f) := View.readAt_unit _ _ _ rfl _
  have rw (f) : arg14.view.readAt (Elt F) (Rect.unit (s := S16x64) ![0, 0] S16x64.size inb_S16x64_S16x64_0_0).toLoadRect f
      = arg14.view.read (Elt F) f := View.readAt_full _ _ _
  have w2 (h) (f) (w : Vec F S1x64 .f32) (L) :
      arg14.view.read (Elt F) (arg14.view.writes (Elt F) f (⟨Rect.unit (s := S16x64) (k0_off2 i) S1x64.size h, w⟩ :: L))
        = setRow i (arg14.view.read (Elt F) (arg14.view.writes (Elt F) f L)) w := View.read_writes_cons_put _ _ _ _ _ rfl
  have w3 (f) (w : Vec F S1x64 .f32) (L) :
      arg14.view.read (Elt F) (arg14.view.writes (Elt F) f (⟨Rect.unit (s := S16x64) (k0_off3 i) S1x64.size (k0_off3_inb i), w⟩ :: L))
        = setRow i (arg14.view.read (Elt F) (arg14.view.writes (Elt F) f L)) w := View.read_writes_cons_put _ _ _ _ _ rfl
  have w4 (f) (w : Vec F S1x64 .f32) (L) :
      arg14.view.read (Elt F) (arg14.view.writes (Elt F) f (⟨Rect.unit (s := S16x64) (k0_off4 i) S1x64.size (k0_off4_inb i), w⟩ :: L))
        = setRow i (arg14.view.read (Elt F) (arg14.view.writes (Elt F) f L)) w := View.read_writes_cons_put _ _ _ _ _ rfl
  have rp (a : Vec F S16x64 .f32) (w : Vec F S1x64 .f32) : rowOf i (setRow i a w) = w := VecWindow.window_put_same _ _ _ _ _
  have wo (f) (w : Vec F S16x1 .f32) (L) :
      arg13.view.read (Elt F) (arg13.view.writes (Elt F) f (⟨Rect.unit (s := S16x1) ![0, 0] S16x1.size inb_S16x1_S16x1_0_0, w⟩ :: L))
        = w := View.read_writes_full _ _ _ _ _
  have cases : (Full i (lenAt c i xt) ∧ ¬ Cut i (lenAt c i xt) ∧ accAfter x0 x1 x2 i (lenAt c i xt) xs
        = setRow i (cleared i xs) (k0_pay11 (fullSum x0 x1 x2) (rowOf i (cleared i xs))))
      ∨ (¬ Full i (lenAt c i xt) ∧ Cut i (lenAt c i xt) ∧ accAfter x0 x1 x2 i (lenAt c i xt) xs
        = setRow i (cleared i xs) (cutRow x0 x1 x2 i (lenAt c i xt) (rowOf i (cleared i xs))))
      ∨ (¬ Full i (lenAt c i xt) ∧ ¬ Cut i (lenAt c i xt) ∧ accAfter x0 x1 x2 i (lenAt c i xt) xs = cleared i xs) := by
    unfold accAfter
    by_cases h1 : Full i (lenAt c i xt)
    · exact .inl ⟨h1, fun h => not_full_of_cut h h1, if_pos h1⟩
    · by_cases h2 : Cut i (lenAt c i xt)
      · exact .inr (.inl ⟨h1, h2, by rw [if_neg h1, if_pos h2]⟩)
      · exact .inr (.inr ⟨h1, h2, by rw [if_neg h1, if_neg h2]⟩)
  simp only [cc0__body_eq_skeleton]
  unfold cc0__body_skel
  simp only [k0_part5_eq_skeleton, k0_part1_eq_skeleton, k0_part2_eq_skeleton, k0_part3_eq_skeleton,
    k0_part4_eq_skeleton]
  by_cases hc0 : k0_cond1 i = 1#1 <;> rcases cases with ⟨hc1, hc2, ha⟩ | ⟨hc1, hc2, ha⟩ | ⟨hc1, hc2, ha⟩ <;>
    by_cases hc3 : k0_cond4 i = 1#1
  all_goals
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; swap; · iexact H10
      ipureintro
      sl_unfold_run_names
      simp only [View.readCov, rp, l0, l1, l2, l3, l4, l5, l6, l7, l8, l9, r3, r4, rw, w2, w3, w4, wo, View.writes_nil, hf10, hfs,
        ha, cleared, fullSum, cutRow, hc0, hc3, if_true, if_false]
      try rfl
    isplitl [HS]
    · iexists _; isplitr; swap; · iexact HS
      ipureintro
      sl_unfold_run_names
      simp only [View.readCov, rp, l0, l1, l2, l3, l4, l5, l6, l7, l8, l9, r3, r4, rw, w2, w3, w4, wo, View.writes_nil, hf10, hfs,
        ha, cleared, fullSum, cutRow, hc0, hc3, if_true, if_false]
      try rfl
    iexact HT

end Cert.KernelIdeal.Pool

end
-- ==== Proof.Pool.Rows.lean ====
/-
  The accumulator row by row: a grid point changes one row, and that row does not depend on what the others hold.
-/
module

public import proofs.«01_k».proof.Proof.Pool.Body
public import Idealize.ShloMosaic.Lib.ValueIdxCore

@[expose] public section

set_option maxRecDepth 16384

noncomputable section

namespace Cert.KernelIdeal.Pool

open Cert.KernelIdeal.Gen Cert.Pool Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off3_0 (i : grid0.Coords) : k0_off3 i 0 = (i 0).val := by
  have h : (i 0).val < 16 := (i 0).isLt
  show (BitVec.ofNat 32 (i 0).val).toNat = _
  rw [BitVec.toNat_ofNat]; omega

/-- Row `b` read off the accumulator. -/
theorem rowOf_apply (i : grid0.Coords) (a : Vec F S16x64 .f32) (b : Fin 16) (hb : b.val = (i 0).val) (j : Fin 64) :
    rowOf i a (ix2 (0 : Fin 1) j) = a (ix2 b j) := by
  refine congrArg a (funext fun d => Fin.ext ?_)
  match d with
  | ⟨0, _⟩ =>
    show k0_off3 i 0 + 1 * 0 = b.val
    rw [off3_0]; omega
  | ⟨1, _⟩ =>
    show 0 + 1 * j.val = j.val
    omega

/-- The row just stored. -/
theorem setRow_same (i : grid0.Coords) (a : Vec F S16x64 .f32) (w : Vec F S1x64 .f32) (b : Fin 16) (hb : b.val = (i 0).val)
    (j : Fin 64) : setRow i a w (ix2 b j) = w (ix2 (0 : Fin 1) j) :=
  (rowOf_apply i (setRow i a w) b hb j).symm.trans (congrFun (VecWindow.window_put_same a (k0_off3 i) S1x64.size (k0_off3_inb i) w) _)

/-- The other rows are kept. -/
theorem setRow_other (i : grid0.Coords) (a : Vec F S16x64 .f32) (w : Vec F S1x64 .f32) (b : Fin 16) (hb : b.val ≠ (i 0).val)
    (j : Fin 64) : setRow i a w (ix2 b j) = a (ix2 b j) := by
  refine dif_neg fun h => hb ?_
  have h0 := h 0
  rw [off3_0] at h0
  have e1 : (i 0).val ≤ b.val := h0.1
  have e2 : b.val < (i 0).val + 1 := h0.2
  omega

variable (x0 : Vec F S1x1024x64 .f32) (x1 x2 : Vec F S64x64 .bf16)

/-- What a grid point makes of its row. -/
def rowAfter (i : grid0.Coords) (n : BitVec 32) (row : Vec F S1x64 .f32) : Vec F S1x64 .f32 :=
  if Full i n then k0_pay11 (fullSum x0 x1 x2) row else if Cut i n then cutRow x0 x1 x2 i n row else row

/-- The row a grid point starts from: zero at a request's first block. -/
def rowBefore (i : grid0.Coords) (row : Vec F S1x64 .f32) : Vec F S1x64 .f32 :=
  if k0_cond1 i = 1#1 then k0_pay10 else row

theorem cleared_row (i : grid0.Coords) (xs : Vec F S16x64 .f32) : rowOf i (cleared i xs) = rowBefore i (rowOf i xs) := by
  unfold cleared rowBefore
  split
  · exact VecWindow.window_put_same xs (k0_off3 i) S1x64.size (k0_off3_inb i) k0_pay10
  · rfl

/-- The point's row after the point. -/
theorem accAfter_row (i : grid0.Coords) (n : BitVec 32) (xs : Vec F S16x64 .f32) (b : Fin 16) (hb : b.val = (i 0).val) (j : Fin 64) :
    accAfter x0 x1 x2 i n xs (ix2 b j) = rowAfter x0 x1 x2 i n (rowBefore i (rowOf i xs)) (ix2 (0 : Fin 1) j) := by
  rw [← cleared_row]
  unfold accAfter rowAfter
  by_cases h1 : Full i n
  · rw [if_pos h1, if_pos h1]
    exact setRow_same i _ _ b hb j
  · rw [if_neg h1, if_neg h1]
    by_cases h2 : Cut i n
    · rw [if_pos h2, if_pos h2]
      exact setRow_same i _ _ b hb j
    · rw [if_neg h2, if_neg h2]
      exact (rowOf_apply i _ b hb j).symm

/-- The other rows after the point. -/
theorem accAfter_other (i : grid0.Coords) (n : BitVec 32) (xs : Vec F S16x64 .f32) (b : Fin 16) (hb : b.val ≠ (i 0).val) (j : Fin 64) :
    accAfter x0 x1 x2 i n xs (ix2 b j) = xs (ix2 b j) := by
  have hc : cleared i xs (ix2 b j) = xs (ix2 b j) := by
    unfold cleared
    split
    · exact setRow_other i _ _ b hb j
    · rfl
  rw [← hc]
  unfold accAfter
  split
  · exact setRow_other i _ _ b hb j
  · split
    · exact setRow_other i _ _ b hb j
    · rfl

end Cert.KernelIdeal.Pool

end
-- ==== Proof.Pool.Run.lean ====
/-
  The whole launch: what the grid's points hold between them, the body at every point, and the run of the main
  function from any memory.
-/
module

public import proofs.«01_k».proof.Proof.Pool.Rows
public import Idealize.ShloMosaic.Lib.Claim

@[expose] public section

set_option maxRecDepth 16384

noncomputable section

namespace Cert.KernelIdeal.Pool

open Cert.KernelIdeal.Gen Cert.Pool Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks, and the accumulator's rows -/

/-- Window `w`'s block at point `t`, read off its array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

theorem N_eq : (cfgM m).N = 64 := N_0

/-- Point `k` of the grid. -/
abbrev pt (k : ℕ) (h : k < 64) : Fin (cfgM m).N := ⟨k, by rw [N_eq]; exact h⟩

/-- The length that the body reads at point `t`. -/
abbrev lenOf (c : Dev nD) (t : Fin (cfgM m).N) : BitVec 32 := lenAt c (grid0.coords t) (tbl m 0)

/-- What point `t` makes of its row. -/
def rowStep (c : Dev nD) (t : Fin (cfgM m).N) (row : Vec F S1x64 .f32) : Vec F S1x64 .f32 :=
  rowAfter (iblk m c 0 t) (iblk m c 1 t) (iblk m c 2 t) (grid0.coords t) (lenOf m c t) row

/-- Request `b`'s row of the accumulator after `s` of its blocks. -/
def rowAt (c : Dev nD) (b : Fin 16) : ℕ → Vec F S1x64 .f32
  | 0 => k0_pay10
  | s + 1 => if h : 4 * b.val + s < 64 then rowStep m c (pt m (4 * b.val + s) h) (rowAt c b s) else rowAt c b s

/-- The accumulator when the head reads it: every request's row after its four blocks. -/
def accFinal (c : Dev nD) : Vec F S16x64 .f32 := fun j => rowAt m c (j 0) 4 (ix2 (0 : Fin 1) (j 1))

/-- Before point `n` the rows of the requests begun hold what their blocks so far make. -/
def Inv (c : Dev nD) (n : ℕ) (xs : Vec F S16x64 .f32) : Prop :=
  ∀ (b : Fin 16) (j : Fin 64), 4 * b.val < n → xs (ix2 b j) = rowAt m c b (min 4 (n - 4 * b.val)) (ix2 (0 : Fin 1) j)

/-- The accumulator after point `t`. -/
def accStep (c : Dev nD) (t : Fin (cfgM m).N) (xs : Vec F S16x64 .f32) : Vec F S16x64 .f32 :=
  accAfter (iblk m c 0 t) (iblk m c 1 t) (iblk m c 2 t) (grid0.coords t) (lenOf m c t) xs

theorem rowAt_succ (c : Dev nD) (b : Fin 16) (t : Fin (cfgM m).N) (s : ℕ) (h : t.val = 4 * b.val + s) :
    rowAt m c b (s + 1) = rowStep m c t (rowAt m c b s) := by
  have ht : t.val < 64 := lt_of_lt_of_eq t.isLt (N_eq m)
  have e : pt m (4 * b.val + s) (by omega) = t := Fin.ext h.symm
  exact (dif_pos (by omega)).trans (congrArg (fun t => rowStep m c t (rowAt m c b s)) e)

theorem Inv_step (c : Dev nD) (t : Fin (cfgM m).N) (xs : Vec F S16x64 .f32) (h : Inv m c t.val xs) :
    Inv m c (t.val + 1) (accStep m c t xs) := by
  intro b j hb
  have ht : t.val < 64 := lt_of_lt_of_eq t.isLt (N_eq m)
  have e0 := coord_0 t
  have e1 := coord_1 t
  by_cases hr : b.val = t.val / 4
  · have hb0 : b.val = (grid0.coords t 0).val := hr.trans e0.symm
    have hs : min 4 (t.val + 1 - 4 * b.val) = t.val % 4 + 1 := by omega
    rw [hs, rowAt_succ m c b t (t.val % 4) (by omega)]
    refine (accAfter_row _ _ _ _ _ _ b hb0 j).trans (congrFun (congrArg (rowStep m c t) ?_) _)
    unfold rowBefore
    by_cases hz : t.val % 4 = 0
    · rw [if_pos ((cond1_iff _).mpr (e1.trans hz)), hz]
      rfl
    · rw [if_neg fun hh => hz (e1.symm.trans ((cond1_iff _).mp hh))]
      funext y
      obtain ⟨j', rfl⟩ : ∃ j' : Fin 64, y = ix2 (0 : Fin 1) j' :=
        ⟨y 1, (eq_ix2 y).trans (congrArg (fun k : Fin 1 => ix2 k (y 1)) (Subsingleton.elim (α := Fin 1) (y 0) 0))⟩
      rw [rowOf_apply _ xs b hb0 j', h b j' (by omega), show min 4 (t.val - 4 * b.val) = t.val % 4 by omega]
  · have hb0 : b.val ≠ (grid0.coords t 0).val := fun hh => hr (hh.trans e0)
    refine (accAfter_other _ _ _ _ _ _ b hb0 j).trans ?_
    rw [h b j (by omega), show min 4 (t.val + 1 - 4 * b.val) = min 4 (t.val - 4 * b.val) by omega]

/-- After the last point the accumulator is `accFinal`. -/
theorem Inv_last (c : Dev nD) (xs : Vec F S16x64 .f32) (h : Inv m c 64 xs) : xs = accFinal m c := by
  funext y
  have hy : (y 0).val < 16 := (y 0).isLt
  have e := h (y 0) (y 1) (by omega)
  rw [show min 4 (64 - 4 * (y 0).val) = 4 by omega] at e
  exact (congrArg xs (eq_ix2 y)).trans e

/-! ## The pipeline's proof data -/

/-- The accumulator's buffer. -/
abbrev scM : Memref sig .tc .vmem S16x64 .f32 := Memref.whole cc0_scratch0

theorem PhiA_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

/-- What is held before point `n`: the accumulator as `Inv` says, the generator register, the table. -/
def Phi (c : Dev nD) (n : ℕ) : sProp 𝕄 :=
  iprop(iprop((∃ xs, ⌜Inv m c n xs⌝ ∗ owns (c : Thread nD τ) scM fullShare xs) ∗ (∃ r, prngReg c r)) ∗ Pipeline.ΦT pre0 (tbl m) c)

/-- What the head makes of an accumulator. -/
def headOf (c : Dev nD) (t : Fin (cfgM m).N) (a : Vec F S16x64 .f32) : Vec F S16x1 .f32 :=
  k0_pay1 a (iblk m c 4 t) (iblk m c 3 t) (iblk m c 5 t) (iblk m c 6 t) (iblk m c 7 t) (iblk m c 8 t) (iblk m c 9 t)

/-- What the head stores. -/
abbrev headOut (c : Dev nD) (t : Fin (cfgM m).N) : Vec F S16x1 .f32 := headOf m c t (accFinal m c)

/-- The arrays as the grid finds them; each input's buffer keeps its block, and the output's takes the head's result. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => headOut m c t
  Φ t := Phi m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = iblk m c 8 t := by dsimp only [dats]; try rfl
theorem after_9 (c : Dev nD) (t : Fin (cfgM m).N) : (dats m 0 c).after 9 t = iblk m c 9 t := by dsimp only [dats]; try rfl
theorem after_10 (c : Dev nD) (t : Fin (cfgM m).N) : (dats m 0 c).after 10 t = headOut m c t := by dsimp only [dats]; try rfl

/-! Each input's staging buffer holds its block when the body starts, and the body gives it back. -/

theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin (cfgM m).N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin (cfgM m).N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin (cfgM m).N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

abbrev ms_0 (t : Fin (cfgM m).N) : Memref sig .tc .vmem S1x1024x64 .f32 := spec0_0.stage ((cfgM m).slots t 0)
abbrev ms_1 (t : Fin (cfgM m).N) : Memref sig .tc .vmem S64x64 .bf16 := spec0_1.stage ((cfgM m).slots t 1)
abbrev ms_2 (t : Fin (cfgM m).N) : Memref sig .tc .vmem S64x64 .bf16 := spec0_2.stage ((cfgM m).slots t 2)
abbrev ms_3 (t : Fin (cfgM m).N) : Memref sig .tc .vmem S16x128 .f32 := spec0_3.stage ((cfgM m).slots t 3)
abbrev ms_4 (t : Fin (cfgM m).N) : Memref sig .tc .vmem S64x64 .f32 := spec0_4.stage ((cfgM m).slots t 4)
abbrev ms_5 (t : Fin (cfgM m).N) : Memref sig .tc .vmem S128x128 .f32 := spec0_5.stage ((cfgM m).slots t 5)
abbrev ms_6 (t : Fin (cfgM m).N) : Memref sig .tc .vmem S128x64 .f32 := spec0_6.stage ((cfgM m).slots t 6)
abbrev ms_7 (t : Fin (cfgM m).N) : Memref sig .tc .vmem S1x128 .f32 := spec0_7.stage ((cfgM m).slots t 7)
abbrev ms_8 (t : Fin (cfgM m).N) : Memref sig .tc .vmem S128x1 .f32 := spec0_8.stage ((cfgM m).slots t 8)
abbrev ms_9 (t : Fin (cfgM m).N) : Memref sig .tc .vmem S1x1 .f32 := spec0_9.stage ((cfgM m).slots t 9)
abbrev ms_10 (t : Fin (cfgM m).N) : Memref sig .tc .vmem S16x1 .f32 := spec0_10.stage ((cfgM m).slots t 10)

theorem leaves_0 (c : Dev nD) (t : Fin (cfgM m).N) :
    (dats m 0 c).leavesExact 0 t = owns (c : Thread nD τ) (ms_0 m t) fullShare (iblk m c 0 t) := by
  have live : (cfgM m).idle 0 (grid0.coords t) = false := (fun _ => rfl : ∀ t : Fin grid0.N, idle0 0 (grid0.coords t) = false) t
  rw [← after_0]; unfold Dat.leavesExact; rw [live]; try rfl
theorem leaves_1 (c : Dev nD) (t : Fin (cfgM m).N) :
    (dats m 0 c).leavesExact 1 t = owns (c : Thread nD τ) (ms_1 m t) fullShare (iblk m c 1 t) := by
  have live : (cfgM m).idle 1 (grid0.coords t) = false := (fun _ => rfl : ∀ t : Fin grid0.N, idle0 1 (grid0.coords t) = false) t
  rw [← after_1]; unfold Dat.leavesExact; rw [live]; try rfl
theorem leaves_2 (c : Dev nD) (t : Fin (cfgM m).N) :
    (dats m 0 c).leavesExact 2 t = owns (c : Thread nD τ) (ms_2 m t) fullShare (iblk m c 2 t) := by
  have live : (cfgM m).idle 2 (grid0.coords t) = false := (fun _ => rfl : ∀ t : Fin grid0.N, idle0 2 (grid0.coords t) = false) t
  rw [← after_2]; unfold Dat.leavesExact; rw [live]; try rfl
theorem leaves_3 (c : Dev nD) (t : Fin (cfgM m).N) :
    (dats m 0 c).leavesExact 3 t = owns (c : Thread nD τ) (ms_3 m t) fullShare (iblk m c 3 t) := by
  have live : (cfgM m).idle 3 (grid0.coords t) = false := (fun _ => rfl : ∀ t : Fin grid0.N, idle0 3 (grid0.coords t) = false) t
  rw [← after_3]; unfold Dat.leavesExact; rw [live]; try rfl
theorem leaves_4 (c : Dev nD) (t : Fin (cfgM m).N) :
    (dats m 0 c).leavesExact 4 t = owns (c : Thread nD τ) (ms_4 m t) fullShare (iblk m c 4 t) := by
  have live : (cfgM m).idle 4 (grid0.coords t) = false := (fun _ => rfl : ∀ t : Fin grid0.N, idle0 4 (grid0.coords t) = false) t
  rw [← after_4]; unfold Dat.leavesExact; rw [live]; try rfl
theorem leaves_5 (c : Dev nD) (t : Fin (cfgM m).N) :
    (dats m 0 c).leavesExact 5 t = owns (c : Thread nD τ) (ms_5 m t) fullShare (iblk m c 5 t) := by
  have live : (cfgM m).idle 5 (grid0.coords t) = false := (fun _ => rfl : ∀ t : Fin grid0.N, idle0 5 (grid0.coords t) = false) t
  rw [← after_5]; unfold Dat.leavesExact; rw [live]; try rfl
theorem leaves_6 (c : Dev nD) (t : Fin (cfgM m).N) :
    (dats m 0 c).leavesExact 6 t = owns (c : Thread nD τ) (ms_6 m t) fullShare (iblk m c 6 t) := by
  have live : (cfgM m).idle 6 (grid0.coords t) = false := (fun _ => rfl : ∀ t : Fin grid0.N, idle0 6 (grid0.coords t) = false) t
  rw [← after_6]; unfold Dat.leavesExact; rw [live]; try rfl
theorem leaves_7 (c : Dev nD) (t : Fin (cfgM m).N) :
    (dats m 0 c).leavesExact 7 t = owns (c : Thread nD τ) (ms_7 m t) fullShare (iblk m c 7 t) := by
  have live : (cfgM m).idle 7 (grid0.coords t) = false := (fun _ => rfl : ∀ t : Fin grid0.N, idle0 7 (grid0.coords t) = false) t
  rw [← after_7]; unfold Dat.leavesExact; rw [live]; try rfl
theorem leaves_8 (c : Dev nD) (t : Fin (cfgM m).N) :
    (dats m 0 c).leavesExact 8 t = owns (c : Thread nD τ) (ms_8 m t) fullShare (iblk m c 8 t) := by
  have live : (cfgM m).idle 8 (grid0.coords t) = false := (fun _ => rfl : ∀ t : Fin grid0.N, idle0 8 (grid0.coords t) = false) t
  rw [← after_8]; unfold Dat.leavesExact; rw [live]; try rfl
theorem leaves_9 (c : Dev nD) (t : Fin (cfgM m).N) :
    (dats m 0 c).leavesExact 9 t = owns (c : Thread nD τ) (ms_9 m t) fullShare (iblk m c 9 t) := by
  have live : (cfgM m).idle 9 (grid0.coords t) = false := (fun _ => rfl : ∀ t : Fin grid0.N, idle0 9 (grid0.coords t) = false) t
  rw [← after_9]; unfold Dat.leavesExact; rw [live]; try rfl
theorem leaves_10 (c : Dev nD) (t : Fin (cfgM m).N) (h : k0_cond4 (grid0.coords t) = 1#1) :
    (dats m 0 c).leavesExact 10 t = owns (c : Thread nD τ) (ms_10 m t) fullShare (headOut m c t) := by
  have live : (cfgM m).idle 10 (grid0.coords t) = false := live_out t h
  rw [← after_10]; unfold Dat.leavesExact; rw [live]; try rfl

/-- What the body leaves in the output's buffer is what the pipeline asks for. -/
theorem leaves_out (c : Dev nD) (t : Fin (cfgM m).N) (xs : Vec F S16x64 .f32) (hxs : Inv m c t.val xs) (d : Vec F S16x1 .f32)
    (hd : ∃ d', (dats m 0 c).before 10 t d' = d) :
    owns (c : Thread nD τ) (ms_10 m t) fullShare
        (if k0_cond4 (grid0.coords t) = 1#1 then headOf m c t (accStep m c t xs) else d)
      ⊢ ((dats m 0 c).leavesExact 10 t : sProp 𝕄) := by
  by_cases h : k0_cond4 (grid0.coords t) = 1#1
  · have hacc : accStep m c t xs = accFinal m c := Inv_last m c _ (by
      have := Inv_step m c t xs hxs
      rwa [(cond4_iff t).mp h] at this)
    rw [leaves_10 m c t h, if_pos h, hacc]
  · rw [if_neg h, Dat.leavesExact_idle (dats m 0 c) 10 t (idle_out t h) (noFlush_out t h)]
    obtain ⟨d', rfl⟩ := hd
    iintro H
    iexists _; iexact H

/-! ## The body at a point -/

/-- The body as the pipeline calls it at point `t`. -/
abbrev bodyAt (t : Fin (cfgM m).N) : Prog (TpuEff nD τ sig (Elt F) Λ₀ .tc) PUnit :=
  cc0__body (grid0.coords t) (Memref.whole main_arg2) (Memref.isWhole_whole _)
    (ms_0 m t) (hstage0_0 (((cfgM m).slots t 0).cast nbuf0_0))
    (ms_1 m t) (hstage0_1 (((cfgM m).slots t 1).cast nbuf0_1))
    (ms_2 m t) (hstage0_2 (((cfgM m).slots t 2).cast nbuf0_2))
    (ms_3 m t) (hstage0_3 (((cfgM m).slots t 3).cast nbuf0_3))
    (ms_4 m t) (hstage0_4 (((cfgM m).slots t 4).cast nbuf0_4))
    (ms_5 m t) (hstage0_5 (((cfgM m).slots t 5).cast nbuf0_5))
    (ms_6 m t) (hstage0_6 (((cfgM m).slots t 6).cast nbuf0_6))
    (ms_7 m t) (hstage0_7 (((cfgM m).slots t 7).cast nbuf0_7))
    (ms_8 m t) (hstage0_8 (((cfgM m).slots t 8).cast nbuf0_8))
    (ms_9 m t) (hstage0_9 (((cfgM m).slots t 9).cast nbuf0_9))
    (ms_10 m t) (hstage0_10 (((cfgM m).slots t 10).cast nbuf0_10))
    (Memref.whole cc0_scratch0) (Memref.isWhole_whole _)

/-- What the body starts from at point `t`, window by window, -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d))
    ∗ (∃ d, owns (c : Thread nD τ) (ms_7 m t) fullShare ((dats m 0 c).before 7 t d))
    ∗ (∃ d, owns (c : Thread nD τ) (ms_8 m t) fullShare ((dats m 0 c).before 8 t d))
    ∗ (∃ d, owns (c : Thread nD τ) (ms_9 m t) fullShare ((dats m 0 c).before 9 t d))
    ∗ (∃ d, owns (c : Thread nD τ) (ms_10 m t) fullShare ((dats m 0 c).before 10 t d)))

/-- and what it ends with. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7, before_8, before_9]
  rw [leaves_0, leaves_1, leaves_2, leaves_3, leaves_4, leaves_5, leaves_6, leaves_7, leaves_8, leaves_9]
  rw [show (dats m 0 c).owesAt () t.succ = (dats m 0 c).owesAt () t.castSucc from rfl,
    show (dats m 0 c).Φ t.succ = Phi m c (t.val + 1) from rfl, show (dats m 0 c).Φ t.castSucc = Phi m c t.val from rfl]
  unfold Phi
  rw [PhiT_eq]
  iintro ⟨⟨⟨⟨%xs, %hxs, HS⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)
    _ xs (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  isplitl [HT]; · iexact HT
  iintro ⟨H0, H1, H2, H3, H4, H5, H6, H7, H8, H9, H10, HS, HT⟩
  isplitl [HS Hg HT]
  · isplitl [HS Hg]
    · isplitl [HS]
      · iexists _; isplitr
        swap; · iexact HS
        ipureintro; exact Inv_step m c t xs hxs
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_out m c t xs hxs _ ⟨_, rfl⟩)
  iexact H10

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The launch -/

theorem hin (c : Dev nD) : iprop(Pipeline.ΦA spec0 c ∗ Pipeline.ΦT pre0 (tbl m) c) ⊢ (dats m 0 c).Φ 0 := by
  rw [show (dats m 0 c).Φ 0 = Phi m c 0 from rfl, PhiA_eq]
  unfold Phi
  iintro ⟨⟨⟨%d, HS⟩, Hg⟩, HT⟩
  isplitl [HS Hg]
  · isplitl [HS]
    · iexists d; isplitr
      · ipureintro; intro b j h; exact absurd h (Nat.not_lt_zero _)
      iexact HS
    iexact Hg
  iexact HT

theorem hout (c : Dev nD) : (dats m 0 c).Φ (Fin.last (cfgM m).N) ⊢ Pipeline.ΦA spec0 c := by
  rw [show (dats m 0 c).Φ (Fin.last (cfgM m).N) = Phi m c (cfgM m).N from rfl, PhiA_eq]
  unfold Phi
  iintro ⟨⟨⟨%xs, -, HS⟩, Hg⟩, -⟩
  isplitl [HS]
  · iexists _; iexact HS
  iexact Hg

-- the launch theorem's implicit arguments are found by unfolding plain definitions in their types
set_option backward.isDefEq.respectTransparency.types false in
/-- Every run from any memory ends, with the arrays as the proof data say and every counter at zero. -/
theorem run_main : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The ten argument arrays are as they were. -/
abbrev Kept (μ : (ℓ : Loc nD τ sig) → Buf (Elt F) ℓ) : Prop := ∀ c : Dev nD,
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9)

/-- Every run leaves the arguments as they were, the result array at the pipeline's final value, and the counters at zero. -/
theorem run_all : θ_run defs (onTc (τ := τ) (main (F := F))) ⟨m, fun _ => 0, ρ⟩ (fun r => Kept m r.2.mem
    ∧ (∀ c : Dev nD, r.2.mem ((c.tc : Thread nD τ).loc main_v7) = (dats m 0 c).arrAt 10 (cfgM m).N) ∧ r.2.sem = fun _ => 0) :=
  (θ_run defs _ _).mono (fun _ h => ⟨fun c => ⟨
      ((h.1 c).1 3).trans (((dats m 0 c).arrAt_in 3 rfl _).trans ((A_eq m c 3).trans (V_of_ne m c main_arg0 (by decide)))),
      ((h.1 c).1 0).trans (((dats m 0 c).arrAt_in 0 rfl _).trans ((A_eq m c 0).trans (V_of_ne m c main_arg1 (by decide)))),
      ((h.1 c).2 main_arg2 (by decide : main_arg2 ∈ Pipeline.restRefs sig spec0)).trans (V_of_ne m c main_arg2 (by decide)),
      ((h.1 c).2 main_arg3 (by decide : main_arg3 ∈ Pipeline.restRefs sig spec0)).trans (V_of_ne m c main_arg3 (by decide)),
      ((h.1 c).2 main_arg4 (by decide : main_arg4 ∈ Pipeline.restRefs sig spec0)).trans (V_of_ne m c main_arg4 (by decide)),
      ((h.1 c).1 4).trans (((dats m 0 c).arrAt_in 4 rfl _).trans ((A_eq m c 4).trans (V_of_ne m c main_arg5 (by decide)))),
      ((h.1 c).2 main_arg6 (by decide : main_arg6 ∈ Pipeline.restRefs sig spec0)).trans (V_of_ne m c main_arg6 (by decide)),
      ((h.1 c).2 main_arg7 (by decide : main_arg7 ∈ Pipeline.restRefs sig spec0)).trans (V_of_ne m c main_arg7 (by decide)),
      ((h.1 c).2 main_arg8 (by decide : main_arg8 ∈ Pipeline.restRefs sig spec0)).trans (V_of_ne m c main_arg8 (by decide)),
      ((h.1 c).2 main_arg9 (by decide : main_arg9 ∈ Pipeline.restRefs sig spec0)).trans (V_of_ne m c main_arg9 (by decide))⟩,
      fun c => (h.1 c).1 10, h.2⟩) (run_main m ρ)

end Cert.KernelIdeal.Pool

end
-- ==== Proof.Pool.Chunk.lean ====
/-
  What one block adds to its request's row, over the extended reals: the two-layer network's value on each of the
  block's live rows, summed.
-/
module

public import proofs.«01_k».proof.Proof.Pool.Body
public import Idealize.ShloMosaic.Lib.Pointwise

@[expose] public section

set_option maxRecDepth 16384

noncomputable section

namespace Cert.Pool

open Idealize.ShloMosaic

/-- The two-layer network on one row of features. -/
def mlp (w1 w2 : Fin 64 → Fin 64 → EReal) (row : Fin 64 → EReal) (j : Fin 64) : EReal :=
  max (∑ k : Fin 64, max (∑ d : Fin 64, row d * w1 k d) 0 * w2 j k) 0

/-- A sum over `a` blocks of `b` terms each. -/
theorem sum_blocks {N a b : ℕ} (hN : N = a * b) (f : Fin N → EReal) :
    ∑ i, f i = ∑ q : Fin a, ∑ r : Fin b, f ⟨b * q.val + r.val, by
      subst hN
      calc b * q.val + r.val < b * q.val + b := Nat.add_lt_add_left r.isLt _
        _ = b * (q.val + 1) := by ring
        _ ≤ b * a := Nat.mul_le_mul_left _ q.isLt
        _ = a * b := Nat.mul_comm _ _⟩ := by
  subst hN
  rw [← Fintype.sum_prod_type' fun (q : Fin a) (r : Fin b) => f ⟨b * q.val + r.val, _⟩]
  exact (Fintype.sum_equiv finProdFinEquiv _ _ fun x => congrArg f (Fin.ext (Nat.add_comm _ _))).symm

/-- Row `r` of chunk `k` of block `s` is compared with the length as a number. -/
theorem live_word (s k r : ℕ) (hs : s < 4) (hk : k ≤ 768) (hr : r < 256) (n : BitVec 32) :
    IntOp.cmpi .slt (IntOp.addi (Scalar.addi (Scalar.muli (BitVec.ofNat 32 s) 1024#32) (BitVec.ofNat 32 k)) (BitVec.ofNat 32 r)) n = 1
      ↔ ((1024 * s + (k + r) : ℕ) : ℤ) < n.toInt := by
  have e : IntOp.addi (Scalar.addi (Scalar.muli (BitVec.ofNat 32 s) 1024#32) (BitVec.ofNat 32 k)) (BitVec.ofNat 32 r)
      = BitVec.ofNat 32 (1024 * s + (k + r)) := by
    show BitVec.ofNat 32 s * BitVec.ofNat 32 1024 + BitVec.ofNat 32 k + BitVec.ofNat 32 r = _
    rw [← BitVec.ofNat_mul, ← BitVec.ofNat_add, ← BitVec.ofNat_add]
    congr 1; ring
  rw [e]
  have hb : ∀ b : Bool, BitVec.ofBool b = 1 ↔ b = true := by decide
  show BitVec.ofBool ((BitVec.ofNat 32 (1024 * s + (k + r))).slt n) = 1 ↔ _
  rw [hb, BitVec.slt_iff_toInt_lt, WordArith.toInt_ofNat_small _ (by omega)]

end Cert.Pool

namespace Cert.KernelIdeal.Pool

open Cert.KernelIdeal.Gen Cert.Pool
open Idealize.ShloMosaic Idealize.ShloMosaic.TcCoe

/-- A weight as a table of numbers. -/
abbrev wt {φ : FTy} (w : FVec Ideal S64x64 φ) : Fin 64 → Fin 64 → EReal := fun k d => w (ix2 k d)

variable (x0 : FVec Ideal S1x1024x64 .f32) (x1 x2 : FVec Ideal S64x64 .bf16)

theorem full_at (a b c d : FVec Ideal S1x256x64 .f32) (j : Fin 64) :
    k0_pay3 (F := Ideal) (k0_pay2 a x1 x2 b x1 x2) c x1 x2 d x1 x2 (ix2 (0 : Fin 1) j)
      = ∑ r : Fin 256, mlp (wt x1) (wt x2) (fun e => a (ix3 (0 : Fin 1) r e)) j
        + ∑ r : Fin 256, mlp (wt x1) (wt x2) (fun e => b (ix3 (0 : Fin 1) r e)) j
        + ∑ r : Fin 256, mlp (wt x1) (wt x2) (fun e => c (ix3 (0 : Fin 1) r e)) j
        + ∑ r : Fin 256, mlp (wt x1) (wt x2) (fun e => d (ix3 (0 : Fin 1) r e)) j := by
  pointwise [k0_pay3, k0_pay2]
  rfl

/-- A chunk's rows, masked: row `r` of chunk `k` of block `s` counts when its number is below the length. -/
def masked (s k : ℕ) (n : BitVec 32) (a : FVec Ideal S1x256x64 .f32) (j : Fin 64) : EReal :=
  ∑ r : Fin 256, if ((1024 * s + (k + r.val) : ℕ) : ℤ) < n.toInt then mlp (wt x1) (wt x2) (fun e => a (ix3 (0 : Fin 1) r e)) j else 0

theorem masked_eq (s k : ℕ) (hs : s < 4) (hk : k ≤ 768) (n : BitVec 32) (a : FVec Ideal S1x256x64 .f32) (j : Fin 64) :
    masked x1 x2 s k n a j = ∑ r : Fin 256, Scalar.select
      (IntOp.cmpi .slt (IntOp.addi (Scalar.addi (Scalar.muli (BitVec.ofNat 32 s) 1024#32) (BitVec.ofNat 32 k)) (BitVec.ofNat 32 r.val)) n)
      (mlp (wt x1) (wt x2) (fun e => a (ix3 (0 : Fin 1) r e)) j) 0 :=
  Finset.sum_congr rfl fun r _ => if_congr (live_word s k r.val hs hk r.isLt n).symm rfl rfl

theorem cut_at (i : grid0.Coords) (n : BitVec 32) (a b c d : FVec Ideal S1x256x64 .f32) (row : FVec Ideal S1x64 .f32) (j : Fin 64) :
    k0_pay12 (F := Ideal) i n
      (k0_pay6 (BitVec.ofNat 32 (i 1).val) n (k0_pay4 (BitVec.ofNat 32 (i 1).val) n a x1 x2) (k0_pay5 b x1) x2)
      (k0_pay7 c x1 x2) (k0_pay8 (F := Ideal) (BitVec.ofNat 32 (i 1).val) n) k0_pay9 d x1 x2 row (ix2 (0 : Fin 1) j)
      = row (ix2 (0 : Fin 1) j) + (masked x1 x2 (i 1).val 0 n a j + masked x1 x2 (i 1).val 256 n b j
        + masked x1 x2 (i 1).val 512 n c j + masked x1 x2 (i 1).val 768 n d j) := by
  have hs : (i 1).val < 4 := (i 1).isLt
  rw [masked_eq x1 x2 _ _ hs (by omega), masked_eq x1 x2 _ _ hs (by omega), masked_eq x1 x2 _ _ hs (by omega),
    masked_eq x1 x2 _ _ hs (by omega)]
  pointwise [k0_pay12, k0_pay6, k0_pay4, k0_pay5, k0_pay7, k0_pay8, k0_pay9]
  rfl

/-- Row `r` of chunk `k` is row `k + r` of the block. -/
theorem chunk_at (k : ℕ) (h) (r : Fin 256) (e : Fin 64) (hk : k + r.val < 1024) :
    chunk (F := Ideal) x0 ![0, k, 0] h (ix3 (0 : Fin 1) r e) = x0 (ix3 (0 : Fin 1) (⟨k + r.val, hk⟩ : Fin 1024) e) := by
  refine congrArg x0 (funext fun a => Fin.ext ?_)
  match a with
  | ⟨0, _⟩ => rfl
  | ⟨1, _⟩ =>
    show k + 1 * r.val = k + r.val
    omega
  | ⟨2, _⟩ =>
    show 0 + 1 * e.val = e.val
    omega

/-- A block whose rows are all live adds every row's value. -/
theorem fullSum_at (j : Fin 64) : fullSum (F := Ideal) x0 x1 x2 (ix2 (0 : Fin 1) j)
    = ∑ r : Fin 1024, mlp (wt x1) (wt x2) (fun e => x0 (ix3 (0 : Fin 1) r e)) j := by
  rw [sum_blocks (a := 4) (b := 256) rfl, Fin.sum_univ_four]
  refine (full_at x1 x2 _ _ _ _ j).trans ?_
  refine congrArg₂ _ (congrArg₂ _ (congrArg₂ _ ?_ ?_) ?_) ?_ <;>
    refine Finset.sum_congr rfl fun r _ => congrArg (fun w => mlp (wt x1) (wt x2) w j) (funext fun e => ?_) <;>
    exact chunk_at x0 _ _ r e (by have := r.isLt; omega)

/-- A cut block adds its live rows' values. -/
theorem cutRow_at (i : grid0.Coords) (n : BitVec 32) (row : FVec Ideal S1x64 .f32) (j : Fin 64) :
    cutRow (F := Ideal) x0 x1 x2 i n row (ix2 (0 : Fin 1) j) = row (ix2 (0 : Fin 1) j)
      + ∑ r : Fin 1024, if ((1024 * (i 1).val + r.val : ℕ) : ℤ) < n.toInt
          then mlp (wt x1) (wt x2) (fun e => x0 (ix3 (0 : Fin 1) r e)) j else 0 := by
  rw [sum_blocks (a := 4) (b := 256) rfl, Fin.sum_univ_four]
  refine (cut_at x1 x2 i n _ _ _ _ row j).trans (congrArg₂ _ rfl ?_)
  refine congrArg₂ _ (congrArg₂ _ (congrArg₂ _ ?_ ?_) ?_) ?_ <;>
    refine Finset.sum_congr rfl fun r _ => if_congr Iff.rfl
      (congrArg (fun w => mlp (wt x1) (wt x2) w j) (funext fun e => ?_)) rfl <;>
    exact chunk_at x0 _ _ r e (by have := r.isLt; omega)

/-! ## The head -/

end Cert.KernelIdeal.Pool

namespace Cert.Pool

/-- The head on one request: its features `x`, its pooled row `p`, the weights and the biases. -/
def head (x : Fin 128 → EReal) (p : Fin 64 → EReal) (w5 : Fin 64 → Fin 64 → EReal) (wa : Fin 128 → Fin 128 → EReal)
    (wb : Fin 128 → Fin 64 → EReal) (b7 : Fin 128 → EReal) (w8 : Fin 128 → EReal) (b9 : EReal) : EReal :=
  ∑ h : Fin 128, max (∑ k : Fin 128, x k * wa h k + ∑ l : Fin 64, max (∑ c : Fin 64, p c * w5 l c) 0 * wb h l + b7 h) 0 * w8 h + b9

end Cert.Pool

namespace Cert.KernelIdeal.Pool

open Cert.KernelIdeal.Gen Cert.Pool
open Idealize.ShloMosaic Idealize.ShloMosaic.TcCoe

/-- What the head stores for request `b`. -/
theorem head_at (acc : FVec Ideal S16x64 .f32) (w5 : FVec Ideal S64x64 .f32) (x : FVec Ideal S16x128 .f32)
    (wa : FVec Ideal S128x128 .f32) (wb : FVec Ideal S128x64 .f32) (b7 : FVec Ideal S1x128 .f32) (w8 : FVec Ideal S128x1 .f32)
    (b9 : FVec Ideal S1x1 .f32) (b : Fin 16) :
    k0_pay1 (F := Ideal) acc w5 x wa wb b7 w8 b9 (ix2 b (0 : Fin 1))
      = head (fun k => x (ix2 b k)) (fun c => acc (ix2 b c)) (wt w5) (fun h k => wa (ix2 h k)) (fun h l => wb (ix2 h l))
          (fun h => b7 (ix2 (0 : Fin 1) h)) (fun h => w8 (ix2 h (0 : Fin 1))) (b9 (ix2 (0 : Fin 1) (0 : Fin 1))) := by
  pointwise [k0_pay1]
  rfl

end Cert.KernelIdeal.Pool

end
-- ==== Proof.Pool.Blocks.lean ====
/-
  What each window's block is, in terms of the arguments: the request rows' block, and the nine arrays that are
  taken whole.
-/
module

public import proofs.«01_k».proof.Proof.Pool.Run
public import proofs.«01_k».proof.Proof.Pool.Chunk
public import Idealize.ShloMosaic.Lib.Pipeline.Value
public import Idealize.ShloMosaic.Lib.StableHlo.Run

@[expose] public section

set_option maxRecDepth 16384

noncomputable section

namespace Cert.KernelIdeal.Pool

open Cert.KernelIdeal.Gen Cert.Pool
open Idealize.ShloMosaic Idealize.ShloMosaic.TcCoe
open Idealize.ShloMosaic.Pipeline (Dat Cfg Window)

variable {F : FTy → Type} [FloatOps F]
variable (m : (ℓ : Loc nD τ sig) → Buf (Elt F) ℓ)

/-! ## The arrays taken whole -/

theorem iblk_1 (c : Dev nD) (t : Fin (cfgM m).N) : iblk m c 1 t = V m c main_v0 :=
  Memref.read_access_unit_zero (Elt F) main_v0 (funext fun a => by fin_cases a <;> rfl)
    (fun a => by fin_cases a <;> exact le_of_eq (Nat.zero_add _)) (V m c main_v0)
theorem iblk_2 (c : Dev nD) (t : Fin (cfgM m).N) : iblk m c 2 t = V m c main_v1 :=
  Memref.read_access_unit_zero (Elt F) main_v1 (funext fun a => by fin_cases a <;> rfl)
    (fun a => by fin_cases a <;> exact le_of_eq (Nat.zero_add _)) (V m c main_v1)
theorem iblk_3 (c : Dev nD) (t : Fin (cfgM m).N) : iblk m c 3 t = V m c main_arg0 :=
  Memref.read_access_unit_zero (Elt F) main_arg0 (funext fun a => by fin_cases a <;> rfl)
    (fun a => by fin_cases a <;> exact le_of_eq (Nat.zero_add _)) (V m c main_arg0)
theorem iblk_4 (c : Dev nD) (t : Fin (cfgM m).N) : iblk m c 4 t = V m c main_arg5 :=
  Memref.read_access_unit_zero (Elt F) main_arg5 (funext fun a => by fin_cases a <;> rfl)
    (fun a => by fin_cases a <;> exact le_of_eq (Nat.zero_add _)) (V m c main_arg5)
theorem iblk_5 (c : Dev nD) (t : Fin (cfgM m).N) : iblk m c 5 t = V m c main_v2 :=
  Memref.read_access_unit_zero (Elt F) main_v2 (funext fun a => by fin_cases a <;> rfl)
    (fun a => by fin_cases a <;> exact le_of_eq (Nat.zero_add _)) (V m c main_v2)
theorem iblk_6 (c : Dev nD) (t : Fin (cfgM m).N) : iblk m c 6 t = V m c main_v3 :=
  Memref.read_access_unit_zero (Elt F) main_v3 (funext fun a => by fin_cases a <;> rfl)
    (fun a => by fin_cases a <;> exact le_of_eq (Nat.zero_add _)) (V m c main_v3)
theorem iblk_7 (c : Dev nD) (t : Fin (cfgM m).N) : iblk m c 7 t = V m c main_v4 :=
  Memref.read_access_unit_zero (Elt F) main_v4 (funext fun a => by fin_cases a <;> rfl)
    (fun a => by fin_cases a <;> exact le_of_eq (Nat.zero_add _)) (V m c main_v4)
theorem iblk_8 (c : Dev nD) (t : Fin (cfgM m).N) : iblk m c 8 t = V m c main_v5 :=
  Memref.read_access_unit_zero (Elt F) main_v5 (funext fun a => by fin_cases a <;> rfl)
    (fun a => by fin_cases a <;> exact le_of_eq (Nat.zero_add _)) (V m c main_v5)
theorem iblk_9 (c : Dev nD) (t : Fin (cfgM m).N) : iblk m c 9 t = V m c main_v6 :=
  Memref.read_access_unit_zero (Elt F) main_v6 (funext fun a => by fin_cases a <;> rfl)
    (fun a => by fin_cases a <;> exact le_of_eq (Nat.zero_add _)) (V m c main_v6)

/-! ## What the preparing operations leave -/

theorem V_v0 (c : Dev nD) : V m c main_v0 = truncf .bf16 (m ((c : Thread nD τ).loc main_arg3)) bitsLt_bf16_f32 := by
  unfold V
  simp only [hostOps0]
  after_results_simp
theorem V_v1 (c : Dev nD) : V m c main_v1 = truncf .bf16 (m ((c : Thread nD τ).loc main_arg4)) bitsLt_bf16_f32 := by
  unfold V
  simp only [hostOps0]
  after_results_simp
theorem V_v2 (c : Dev nD) : V m c main_v2 = extractStridedSlice S128x128 ![0, 0] (m ((c : Thread nD τ).loc main_arg6)) slices_S128x192_S128x128_0_0 := by
  unfold V
  simp only [hostOps0]
  after_results_simp
theorem V_v3 (c : Dev nD) : V m c main_v3 = extractStridedSlice S128x64 ![0, 128] (m ((c : Thread nD τ).loc main_arg6)) slices_S128x192_S128x64_0_128 := by
  unfold V
  simp only [hostOps0]
  after_results_simp
theorem V_v4 (c : Dev nD) : V m c main_v4 = shapeCast S1x128 (m ((c : Thread nD τ).loc main_arg7)) shapeCasts_S128_S1x128 := by
  unfold V
  simp only [hostOps0]
  after_results_simp
  rfl
theorem V_v5 (c : Dev nD) : V m c main_v5 = transpose S128x1 [1, 0] (m ((c : Thread nD τ).loc main_arg8)) transposes_S1x128_S128x1_1_0 := by
  unfold V
  simp only [hostOps0]
  after_results_simp
theorem V_v6 (c : Dev nD) : V m c main_v6 = shapeCast S1x1 (m ((c : Thread nD τ).loc main_arg9)) shapeCasts_S1_S1x1 := by
  unfold V
  simp only [hostOps0]
  after_results_simp
  rfl

theorem V_arg0 (c : Dev nD) : V m c main_arg0 = m ((c : Thread nD τ).loc main_arg0) := V_of_ne m c _ (by decide)
theorem V_arg1 (c : Dev nD) : V m c main_arg1 = m ((c : Thread nD τ).loc main_arg1) := V_of_ne m c _ (by decide)
theorem V_arg2 (c : Dev nD) : V m c main_arg2 = m ((c : Thread nD τ).loc main_arg2) := V_of_ne m c _ (by decide)
theorem V_arg5 (c : Dev nD) : V m c main_arg5 = m ((c : Thread nD τ).loc main_arg5) := V_of_ne m c _ (by decide)

/-! ## The length and the block of request rows -/

/-- The arguments that the pooling reads, as arrays. -/
abbrev lens (c : Dev nD) : IVec S16 32 := m ((c : Thread nD τ).loc main_arg2)
abbrev reqs (c : Dev nD) : FVec F S16x4096x64 .f32 := m ((c : Thread nD τ).loc main_arg1)

theorem off1_eq (t : Fin grid0.N) : k0_off1 (grid0.coords t) = ![t.val / 4] := by
  have ht : t.val < 64 := Nat.lt_of_lt_of_eq t.isLt N_0
  have e : (BitVec.ofNat 32 (t.val / 4)).toNat = t.val / 4 := by rw [BitVec.toNat_ofNat]; omega
  unfold k0_off1
  simp only [coord_0 t]
  exact congrArg (fun n => (![n] : Fin 1 → ℕ)) e

/-- The length read at point `t` is its request's. -/
theorem lenOf_eq (c : Dev nD) (t : Fin (cfgM m).N) (b : Fin 16) (s : ℕ) (hs : s < 4) (h : t.val = 4 * b.val + s) :
    lenOf m c t = lens m c (ix1 b) := by
  obtain rfl : c = 0 := Subsingleton.elim _ _
  refine (congrFun (V_arg2 m 0) _).trans (congrArg (lens m 0) (funext fun a => Fin.ext ?_))
  match a with
  | ⟨0, _⟩ =>
    have e : k0_off1 (grid0.coords t) 0 = t.val / 4 := congrFun (off1_eq t) 0
    show k0_off1 (grid0.coords t) 0 + 1 * 0 = b.val
    omega

/-- The block read at point `t`: rows from `1024 * blockAt` of the request. -/
theorem iblk_0_at (c : Dev nD) (t : Fin (cfgM m).N) (b : Fin 16) (s : ℕ) (hs : s < 4) (h : t.val = 4 * b.val + s)
    (hb : (blockAt (BitVec.ofNat 32 s) (lens m c (ix1 b))).toNat = s) (r : Fin 1024) (e : Fin 64) :
    iblk m c 0 t (ix3 (0 : Fin 1) r e) = reqs m c (ix3 b (⟨1024 * s + r.val, by omega⟩ : Fin 4096) e) := by
  have e0 : (grid0.coords t 0).val = b.val := (coord_0 t).trans (by omega)
  have e1 : (grid0.coords t 1).val = s := (coord_1 t).trans (by omega)
  have hx : (blockAt (BitVec.ofNat 32 (grid0.coords t 1).val) (lenOf m 0 t)).toNat = s := by
    obtain rfl : c = 0 := Subsingleton.elim _ _
    rw [e1, lenOf_eq m 0 t b s hs h, hb]
  have hb16 : (BitVec.ofNat 32 (grid0.coords t 0).val).toNat = b.val := by
    rw [e0, BitVec.toNat_ofNat]; have := b.isLt; omega
  refine (congrFun (V_arg1 m c) _).trans (congrArg (reqs m c) (funext fun a => Fin.ext ?_))
  match a with
  | ⟨0, _⟩ =>
    show (BitVec.ofNat 32 (grid0.coords t 0).val).toNat * 1 + 1 * 0 = b.val
    omega
  | ⟨1, _⟩ =>
    show (blockAt (BitVec.ofNat 32 (grid0.coords t 1).val) (lenOf m 0 t)).toNat * 1024 + 1 * r.val = 1024 * s + r.val
    omega
  | ⟨2, _⟩ =>
    show 0 * 64 + 1 * e.val = e.val
    omega

end Cert.KernelIdeal.Pool

end
-- ==== Proof.Pool.Pooled.lean ====
/-
  The pooled row of a request, over the extended reals: the network's values on the request's live rows, summed.
  The precondition on the lengths enters here: the number of blocks is the length over 1024, rounded up.
-/
module

public import proofs.«01_k».proof.Proof.Pool.Blocks

@[expose] public section

set_option maxRecDepth 16384

noncomputable section

namespace Cert.Pool

open Idealize.ShloMosaic

/-- The pooled row: the network's value on row `i` of the request, over the rows below the length. -/
def pooled (n : BitVec 32) (w1 w2 : Fin 64 → Fin 64 → EReal) (x : Fin 4096 → Fin 64 → EReal) (j : Fin 64) : EReal :=
  ∑ i : Fin 4096, if (i.val : ℤ) < n.toInt then mlp w1 w2 (x i) j else 0

theorem ofBool_one (b : Bool) : BitVec.ofBool b = 1#1 ↔ b = true := by cases b <;> decide

/-- A bit widened to a word is nonzero exactly when it is set. -/
theorem ne_extui_iff (b : BitVec 1) : Scalar.cmpi .ne (Scalar.extui b : BitVec 32) 0#32 = 1#1 ↔ b = 1#1 := by
  revert b; decide

/-- The word test that every row of block `s` is live. -/
theorem sle_iff (s : ℕ) (hs : s < 4) (n : BitVec 32) :
    Scalar.cmpi .sle (Scalar.muli (Scalar.addi (BitVec.ofNat 32 s) 1#32) 1024#32) n = 1#1 ↔ (1024 * (s + 1) : ℤ) ≤ n.toInt := by
  have e : Scalar.muli (Scalar.addi (BitVec.ofNat 32 s) 1#32) 1024#32 = BitVec.ofNat 32 (1024 * (s + 1)) := by
    show (BitVec.ofNat 32 s + BitVec.ofNat 32 1) * BitVec.ofNat 32 1024 = _
    rw [← BitVec.ofNat_add, ← BitVec.ofNat_mul]
    congr 1; ring
  rw [e]
  show BitVec.ofBool ((BitVec.ofNat 32 (1024 * (s + 1))).sle n) = 1#1 ↔ _
  rw [ofBool_one, BitVec.sle_iff_toInt_le, WordArith.toInt_ofNat_small _ (by omega)]
  push_cast
  rfl

theorem and_not_iff (p q : BitVec 1) : Scalar.andi (Scalar.xori p 1#1) q = 1#1 ↔ ¬ p = 1#1 ∧ q = 1#1 := by
  revert p q; decide

end Cert.Pool

namespace Cert.KernelIdeal.Pool

open Cert.KernelIdeal.Gen Cert.Pool
open Idealize.ShloMosaic Idealize.ShloMosaic.TcCoe

theorem full_iff (i : grid0.Coords) (n : BitVec 32) : Full i n ↔ (1024 * ((i 1).val + 1) : ℤ) ≤ n.toInt :=
  (ne_extui_iff _).trans (sle_iff _ (i 1).isLt n)

theorem cut_iff (i : grid0.Coords) (n : BitVec 32) (h : n.toInt ≤ 2147482624) :
    Cut i n ↔ ¬ (1024 * ((i 1).val + 1) : ℤ) ≤ n.toInt ∧ ((i 1).val : ℤ) * 1024 < n.toInt := by
  refine (ne_extui_iff _).trans ((and_not_iff _ _).trans (and_congr (not_congr (sle_iff _ (i 1).isLt n)) ?_))
  exact (ofBool_one _).trans (slt_blocks_iff _ (i 1).isLt n h)

variable (m : (ℓ : Loc nD τ sig) → Buf (Elt Ideal) ℓ)

/-- The pooling's weights, and a request's rows. -/
abbrev wIn (c : Dev nD) : Fin 64 → Fin 64 → EReal := wt (φ := .f32) (m ((c : Thread nD τ).loc main_arg3))
abbrev wEmb (c : Dev nD) : Fin 64 → Fin 64 → EReal := wt (φ := .f32) (m ((c : Thread nD τ).loc main_arg4))
abbrev rows (c : Dev nD) (b : Fin 16) : Fin 4096 → Fin 64 → EReal := fun i e => reqs m c (ix3 b i e)

theorem wt_1 (c : Dev nD) (t : Fin (cfgM m).N) : wt (φ := .bf16) (iblk m c 1 t) = wIn m c := by
  funext k d
  exact congrFun ((iblk_1 m c t).trans (V_v0 m c)) (ix2 k d)

theorem wt_2 (c : Dev nD) (t : Fin (cfgM m).N) : wt (φ := .bf16) (iblk m c 2 t) = wEmb m c := by
  funext k d
  exact congrFun ((iblk_2 m c t).trans (V_v1 m c)) (ix2 k d)

/-- What block `s` of request `b` adds to its row. -/
def blockSum (c : Dev nD) (b : Fin 16) (s : ℕ) (hs : s < 4) (j : Fin 64) : EReal :=
  ∑ r : Fin 1024, if ((1024 * s + r.val : ℕ) : ℤ) < (lens m c (ix1 b)).toInt
    then mlp (wIn m c) (wEmb m c) (rows m c b ⟨1024 * s + r.val, by omega⟩) j else 0

theorem pay11_at (v row : FVec Ideal S1x64 .f32) (j : Fin 64) :
    k0_pay11 (F := Ideal) v row (ix2 (0 : Fin 1) j) = row (ix2 (0 : Fin 1) j) + v (ix2 (0 : Fin 1) j) := by
  pointwise [k0_pay11]

theorem pay10_at (j : Fin 64) : k0_pay10 (F := Ideal) (ix2 (0 : Fin 1) j) = 0 := by
  pointwise [k0_pay10]

/-- Point `4 b + s` adds block `s` of request `b`. -/
theorem rowStep_at (c : Dev nD) (t : Fin (cfgM m).N) (b : Fin 16) (s : ℕ) (hs : s < 4) (h : t.val = 4 * b.val + s)
    (hn : (lens m c (ix1 b)).toInt ≤ 2147482624) (row : FVec Ideal S1x64 .f32) (j : Fin 64) :
    rowStep m c t row (ix2 (0 : Fin 1) j) = row (ix2 (0 : Fin 1) j) + blockSum m c b s hs j := by
  have e1 : (grid0.coords t 1).val = s := (coord_1 t).trans (by omega)
  have el := lenOf_eq m c t b s hs h
  have hfull := full_iff (grid0.coords t) (lenOf m c t)
  have hcut := cut_iff (grid0.coords t) (lenOf m c t) (by rw [el]; exact hn)
  rw [e1, el] at hfull hcut
  -- when some row is live, the block read is block `s`
  have blk : (s : ℤ) * 1024 < (lens m c (ix1 b)).toInt → ∀ r : Fin 1024,
      mlp (wt (φ := .bf16) (iblk m c 1 t)) (wt (φ := .bf16) (iblk m c 2 t)) (fun e => iblk m c 0 t (ix3 (0 : Fin 1) r e)) j
        = mlp (wIn m c) (wEmb m c) (rows m c b ⟨1024 * s + r.val, by omega⟩) j := fun hlt r =>
    congrFun (congr (congr (congrArg mlp (wt_1 m c t)) (wt_2 m c t)) (funext fun e =>
      iblk_0_at m c t b s hs h (blockAt_eq s hs _ ((slt_blocks_iff s hs _ hn).mpr hlt)) r e)) j
  unfold rowStep rowAfter
  by_cases hf : Full (grid0.coords t) (lenOf m c t)
  · rw [if_pos hf]
    have hf' := hfull.mp (by rw [← el]; exact hf)
    refine (pay11_at _ _ j).trans (congrArg₂ _ rfl ((fullSum_at _ _ _ j).trans ?_))
    refine Finset.sum_congr rfl fun r _ => ?_
    rw [if_pos (by have := r.isLt; push_cast; omega)]
    exact blk (by omega) r
  · rw [if_neg hf]
    by_cases hc : Cut (grid0.coords t) (lenOf m c t)
    · rw [if_pos hc]
      have hc' := hcut.mp (by rw [← el]; exact hc)
      refine (cutRow_at _ _ _ _ _ row j).trans (congrArg₂ _ rfl ?_)
      refine Finset.sum_congr rfl fun r _ => if_congr (by rw [e1, el]) (blk hc'.2 r) rfl
    · rw [if_neg hc]
      have hc' : ¬ (s : ℤ) * 1024 < (lens m c (ix1 b)).toInt := fun hlt => hc (by
        rw [el]
        exact hcut.mpr ⟨fun hh => hf (by rw [el]; exact hfull.mpr hh), hlt⟩)
      have z : blockSum m c b s hs j = 0 :=
        Finset.sum_eq_zero fun r _ => if_neg (by push_cast; omega)
      rw [z, add_zero]

/-- After its four blocks a request's row is its pooled row. -/
theorem rowAt_four (c : Dev nD) (b : Fin 16) (hn : (lens m c (ix1 b)).toInt ≤ 2147482624) (j : Fin 64) :
    rowAt m c b 4 (ix2 (0 : Fin 1) j) = pooled (lens m c (ix1 b)) (wIn m c) (wEmb m c) (rows m c b) j := by
  have hb := b.isLt
  have step : ∀ (s : ℕ) (hs : s < 4), rowAt m c b (s + 1) (ix2 (0 : Fin 1) j)
      = rowAt m c b s (ix2 (0 : Fin 1) j) + blockSum m c b s hs j := fun s hs =>
    (congrFun (rowAt_succ m c b (pt m (4 * b.val + s) (by omega)) s rfl) _).trans
      (rowStep_at m c _ b s hs rfl hn _ j)
  have z : rowAt m c b 0 (ix2 (0 : Fin 1) j) = 0 := pay10_at j
  rw [step 3 (by omega), step 2 (by omega), step 1 (by omega), step 0 (by omega), z, zero_add]
  unfold pooled
  rw [sum_blocks (a := 4) (b := 1024) rfl, Fin.sum_univ_four]
  rfl

end Cert.KernelIdeal.Pool

end
-- ==== Proof.Pool.Result.lean ====
/-
  The result array, over the extended reals: request `b`'s entry is the head on its features and its pooled row.
-/
module

public import proofs.«01_k».proof.Proof.Pool.Pooled

@[expose] public section

set_option maxRecDepth 16384

noncomputable section

namespace Cert.Pool

open Idealize.ShloMosaic

/-- The network as a function of its ten arguments: its value for each request. -/
def netOut (x : FVec Ideal ⟨2, ![16, 128]⟩ .f32) (xr : FVec Ideal ⟨3, ![16, 4096, 64]⟩ .f32) (n : IVec ⟨1, ![16]⟩ 32)
    (w3 w4 w5 : FVec Ideal ⟨2, ![64, 64]⟩ .f32) (w6 : FVec Ideal ⟨2, ![128, 192]⟩ .f32) (b7 : FVec Ideal ⟨1, ![128]⟩ .f32)
    (w8 : FVec Ideal ⟨2, ![1, 128]⟩ .f32) (b9 : FVec Ideal ⟨1, ![1]⟩ .f32) (b : Fin 16) : EReal :=
  head (fun k => x (ix2 b k))
    (fun j => pooled (n (ix1 b)) (fun k d => w3 (ix2 k d)) (fun k d => w4 (ix2 k d)) (fun i e => xr (ix3 b i e)) j)
    (fun l j => w5 (ix2 l j)) (fun h k => w6 (ix2 h (Fin.castAdd 64 k))) (fun h l => w6 (ix2 h (Fin.natAdd 128 l)))
    (fun h => b7 (ix1 h)) (fun h => w8 (ix2 (0 : Fin 1) h)) (b9 (ix1 (0 : Fin 1)))

end Cert.Pool

namespace Cert.KernelIdeal.Pool

open Cert.KernelIdeal.Gen Cert.Pool
open Idealize.ShloMosaic Idealize.ShloMosaic.TcCoe
open Idealize.ShloMosaic.Pipeline (Dat Cfg Window)

section
variable {F : FTy → Type} [FloatOps F]
variable (m : (ℓ : Loc nD τ sig) → Buf (Elt F) ℓ)

/-- The last point. -/
abbrev tLast : Fin (cfgM m).N := pt m 63 (by omega)

/-- The result: the head's block at the last point, which is the whole array. -/
abbrev result (c : Dev nD) : Buf (Elt F) ((c : Thread nD τ).loc main_v7) := headOut m c (tLast m)

theorem flushed_eq (c : Dev nD) (t : Fin (cfgM m).N) (hf : ((cfgM m).win 10).flush t = true) :
    (dats m 0 c).flushed 10 t = (((cfgM m).win 10).blk t).view.read (Elt F) (result m c) := by
  have ht : t.val < 64 := lt_of_lt_of_eq t.isLt (N_eq m)
  have h63 : t.val = 63 := by have := (flush_out t).mp hf; omega
  obtain rfl : t = tLast m := Fin.ext h63
  refine (after_10 m c (tLast m)).trans ?_
  exact (Memref.read_access_unit_zero (Elt F) main_v7 (funext fun a => by fin_cases a <;> rfl)
    (fun a => by fin_cases a <;> exact le_of_eq (Nat.zero_add _)) (result m c)).symm

theorem final_o (c : Dev nD) : (dats m 0 c).arrAt 10 (cfgM m).N = result m c :=
  (dats m 0 c).arrAt_eq_of_cover 10 (result m c) (flushed_eq m c) fun i =>
    ⟨tLast m, (flush_out (tLast m)).mpr rfl,
      (congrArg (fun S : Finset main_v7.ty.shape.Idx => i ∈ S)
        (View.set_slice_whole main_v7 (((cfgM m).win 10).rect (tLast m)))).mpr
        (View.mem_set_unit_zero (S := S16x1) (funext fun a => by fin_cases a <;> rfl)
          (fun a => by fin_cases a <;> exact le_of_eq (Nat.zero_add _)) i)⟩
end

variable (m : (ℓ : Loc nD τ sig) → Buf (Elt Ideal) ℓ)

theorem slice_a_at (w : FVec Ideal S128x192 .f32) (h k : Fin 128) :
    extractStridedSlice S128x128 ![0, 0] w slices_S128x192_S128x128_0_0 (ix2 h k) = w (ix2 h (Fin.castAdd 64 k : Fin 192)) := by
  pointwise
  rfl
theorem slice_b_at (w : FVec Ideal S128x192 .f32) (h : Fin 128) (l : Fin 64) :
    extractStridedSlice S128x64 ![0, 128] w slices_S128x192_S128x64_0_128 (ix2 h l) = w (ix2 h (Fin.natAdd 128 l : Fin 192)) := by
  pointwise
  rfl
theorem row7_at (w : FVec Ideal S128 .f32) (h : Fin 128) :
    shapeCast S1x128 w shapeCasts_S128_S1x128 (ix2 (0 : Fin 1) h) = w (ix1 h) := by
  pointwise
theorem col8_at (w : FVec Ideal S1x128 .f32) (h : Fin 128) :
    transpose S128x1 [1, 0] w transposes_S1x128_S128x1_1_0 (ix2 h (0 : Fin 1)) = w (ix2 (0 : Fin 1) h) := by
  pointwise
theorem cell9_at (w : FVec Ideal S1 .f32) :
    shapeCast S1x1 w shapeCasts_S1_S1x1 (ix2 (0 : Fin 1) (0 : Fin 1)) = w (ix1 (0 : Fin 1)) := by
  pointwise

/-- The result's entry for request `b`. -/
theorem result_at (c : Dev nD) (hn : ∀ b : Fin 16, (lens m c (ix1 b)).toInt ≤ 2147482624) (b : Fin 16) :
    result m c (ix2 b (0 : Fin 1)) = netOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) b := by
  refine (head_at _ _ _ _ _ _ _ _ b).trans ?_
  unfold netOut
  congr 1
  · funext k
    exact congrFun ((iblk_3 m c (tLast m)).trans (V_arg0 m c)) (ix2 b k)
  · funext j
    exact rowAt_four m c b (hn b) j
  · funext l j
    exact congrFun ((iblk_4 m c (tLast m)).trans (V_arg5 m c)) (ix2 l j)
  · funext h k
    exact (congrFun ((iblk_5 m c (tLast m)).trans (V_v2 m c)) (ix2 h k)).trans (slice_a_at _ h k)
  · funext h l
    exact (congrFun ((iblk_6 m c (tLast m)).trans (V_v3 m c)) (ix2 h l)).trans (slice_b_at _ h l)
  · funext h
    exact (congrFun ((iblk_7 m c (tLast m)).trans (V_v4 m c)) (ix2 (0 : Fin 1) h)).trans (row7_at _ h)
  · funext h
    exact (congrFun ((iblk_8 m c (tLast m)).trans (V_v5 m c)) (ix2 h (0 : Fin 1))).trans (col8_at _ h)
  · exact (congrFun ((iblk_9 m c (tLast m)).trans (V_v6 m c)) (ix2 (0 : Fin 1) (0 : Fin 1))).trans (cell9_at _)

end Cert.KernelIdeal.Pool

end
-- ==== Proof.Pool.Refer.lean ====
/-
  The reference, over the extended reals: request `b`'s entry is the same network on the arguments.
-/
module

public import proofs.«01_k».proof.Proof.Pool.Result
public import proofs.«01_k».proof.Proof.Gen.ReferenceIdeal.Run

@[expose] public section

set_option maxRecDepth 16384

noncomputable section

namespace Cert.ReferenceIdeal.Pool

open Cert.ReferenceIdeal Cert.ReferenceIdeal.Gen Cert.Pool
open Idealize.ShloMosaic Idealize.ShloMosaic.TcCoe Idealize.SL.Sem

section
variable {F : FTy → Type} [FloatOps F]

/-- The network's value on every row of every request. -/
def hidden (x1 : FVec F S16x4096x64 .f32) (x3 x4 : FVec F S64x64 .f32) : FVec F S16x4096x64 .f32 :=
  maximumf (Host.dotGeneral dot_S16x4096x64_S64x64_S16x4096x64_2_1_01_0_n_n none (maximumf (Host.dotGeneral dot_S16x4096x64_S64x64_S16x4096x64_2_1_01_0_n_n none x1 x3) (broadcastInDim S16x4096x64 ![] bcast_S_S16x4096x64 (constant S_ .f32 0x00000000#32))) x4) (broadcastInDim S16x4096x64 ![] bcast_S_S16x4096x64 (constant S_ .f32 0x00000000#32))

/-- The mask: 1 on the rows below the length, 0 on the others. -/
def mask (x2 : IVec S16 32) : FVec F S16x4096x64 .f32 :=
  broadcastInDim S16x4096x64 ![0, 1, 2] bcast_S16x4096x1_S16x4096x64_0_1_2 (broadcastInDim S16x4096x1 ![0, 1] bcast_S16x4096_S16x4096x1_0_1 (uitofp .f32 (cmpi .slt (broadcastInDim S16x4096 ![0, 1] bcast_S1x4096_S16x4096_0_1 (broadcastInDim S1x4096 ![1] bcast_S4096_S1x4096_1 (iotaInDim S4096 32 0))) (broadcastInDim S16x4096 ![0, 1] bcast_S16x1_S16x4096_0_1 (broadcastInDim S16x1 ![0] bcast_S16_S16x1_0 x2)))))

/-- The pooled rows. -/
def pool (h k : FVec F S16x4096x64 .f32) : FVec F S16x64 .f32 :=
  Host.reduceAdd (mulf h k) (constant S_ .f32 0x00000000#32) reducesTo_S16x4096x64_S16x64_d1 h_S_

/-- The head. -/
def tail (x0 : FVec F S16x128 .f32) (s : FVec F S16x64 .f32) (x5 : FVec F S64x64 .f32) (x6 : FVec F S128x192 .f32)
    (x7 : FVec F S128 .f32) (x8 : FVec F S1x128 .f32) (x9 : FVec F S1 .f32) : FVec F S16x1 .f32 :=
  addf (Host.dotGeneral dot_S16x128_S128x1_S16x1_1_0_0_1_n_n none (maximumf (addf (Host.dotGeneral dot_S16x192_S192x128_S16x128_1_0_0_1_n_n none (concatenate S16x192 1 [⟨S16x128, x0⟩, ⟨S16x64, (maximumf (Host.dotGeneral dot_S16x64_S64x64_S16x64_1_0_0_1_n_n none s (transpose S64x64 [1, 0] x5 transposes_S64x64_S64x64_1_0)) (broadcastInDim S16x64 ![] bcast_S_S16x64 (constant S_ .f32 0x00000000#32)))⟩] concatenates_S16x128_S16x64_S16x192_d1) (transpose S192x128 [1, 0] x6 transposes_S128x192_S192x128_1_0)) (broadcastInDim S16x128 ![0, 1] bcast_S1x128_S16x128_0_1 (broadcastInDim S1x128 ![1] bcast_S128_S1x128_1 x7))) (broadcastInDim S16x128 ![] bcast_S_S16x128 (constant S_ .f32 0x00000000#32))) (transpose S128x1 [1, 0] x8 transposes_S1x128_S128x1_1_0)) (broadcastInDim S16x1 ![0, 1] bcast_S1x1_S16x1_0_1 (broadcastInDim S1x1 ![1] bcast_S1_S1x1_1 x9))

/-- The reference's result as a function of its arguments. -/
def refOut (x0 : FVec F S16x128 .f32) (x1 : FVec F S16x4096x64 .f32) (x2 : IVec S16 32) (x3 x4 x5 : FVec F S64x64 .f32)
    (x6 : FVec F S128x192 .f32) (x7 : FVec F S128 .f32) (x8 : FVec F S1x128 .f32) (x9 : FVec F S1 .f32) : FVec F S16x1 .f32 :=
  tail x0 (pool (hidden x1 x3 x4) (mask x2)) x5 x6 x7 x8 x9
end

theorem hidden_at (x1 : FVec Ideal S16x4096x64 .f32) (x3 x4 : FVec Ideal S64x64 .f32) (b : Fin 16) (i : Fin 4096) (j : Fin 64) :
    hidden (F := Ideal) x1 x3 x4 (ix3 b i j)
      = mlp (fun k d => x3 (ix2 k d)) (fun k d => x4 (ix2 k d)) (fun e => x1 (ix3 b i e)) j := by
  pointwise [hidden]
  rfl

theorem mask_at (x2 : IVec S16 32) (b : Fin 16) (i : Fin 4096) (j : Fin 64) :
    mask (F := Ideal) x2 (ix3 b i j) = if (i.val : ℤ) < (x2 (ix1 b)).toInt then 1 else 0 := by
  pointwise [mask]
  have e : IntOp.cmpi .slt (BitVec.ofNat 32 i.val) (x2 (ix1 b)) = BitVec.ofBool (decide ((i.val : ℤ) < (x2 (ix1 b)).toInt)) := by
    have hi := i.isLt
    refine congrArg BitVec.ofBool (Bool.eq_iff_iff.mpr ?_)
    rw [BitVec.slt_iff_toInt_lt, WordArith.toInt_ofNat_small _ (by omega), decide_eq_true_iff]
  rw [e]
  by_cases h : (i.val : ℤ) < (x2 (ix1 b)).toInt
  · rw [if_pos h, decide_eq_true h]
    show (((1 : ℕ) : ℝ) : EReal) = 1
    simp
  · rw [if_neg h, decide_eq_false h]
    show (((0 : ℕ) : ℝ) : EReal) = 0
    simp

theorem pool_at (h k : FVec Ideal S16x4096x64 .f32) (b : Fin 16) (j : Fin 64) :
    pool (F := Ideal) h k (ix2 b j) = ∑ i : Fin 4096, h (ix3 b i j) * k (ix3 b i j) := by
  pointwise [pool]

theorem tail_at (x0 : FVec Ideal S16x128 .f32) (s : FVec Ideal S16x64 .f32) (x5 : FVec Ideal S64x64 .f32) (x6 : FVec Ideal S128x192 .f32)
    (x7 : FVec Ideal S128 .f32) (x8 : FVec Ideal S1x128 .f32) (x9 : FVec Ideal S1 .f32) (b : Fin 16) :
    tail (F := Ideal) x0 s x5 x6 x7 x8 x9 (ix2 b (0 : Fin 1))
      = head (fun k => x0 (ix2 b k)) (fun j => s (ix2 b j)) (fun l j => x5 (ix2 l j))
          (fun h k => x6 (ix2 h (Fin.castAdd 64 k))) (fun h l => x6 (ix2 h (Fin.natAdd 128 l)))
          (fun h => x7 (ix1 h)) (fun h => x8 (ix2 (0 : Fin 1) h)) (x9 (ix1 (0 : Fin 1))) := by
  pointwise [tail]
  rfl

/-- The reference's entry for request `b`. -/
theorem refOut_at (x0 : FVec Ideal S16x128 .f32) (x1 : FVec Ideal S16x4096x64 .f32) (x2 : IVec S16 32)
    (x3 x4 x5 : FVec Ideal S64x64 .f32) (x6 : FVec Ideal S128x192 .f32) (x7 : FVec Ideal S128 .f32)
    (x8 : FVec Ideal S1x128 .f32) (x9 : FVec Ideal S1 .f32) (b : Fin 16) :
    refOut (F := Ideal) x0 x1 x2 x3 x4 x5 x6 x7 x8 x9 (ix2 b (0 : Fin 1)) = netOut x0 x1 x2 x3 x4 x5 x6 x7 x8 x9 b := by
  refine (tail_at _ _ _ _ _ _ _ b).trans ?_
  unfold netOut
  congr 1
  funext j
  rw [pool_at]
  unfold pooled
  refine Finset.sum_congr rfl fun i _ => ?_
  rw [hidden_at, mask_at, mul_ite, mul_one, mul_zero]

/-- The reference's run: its result, and its arguments unchanged. -/
theorem run_ref {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = refOut
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.ReferenceIdeal.Value.run m ρ

end Cert.ReferenceIdeal.Pool

end
-- ==== Proof.lean ====
/-
  The certificate of the pooling kernel.

    quiescent_Kernel, quiescent_KernelIdeal (with and without the precondition) — every run ends, the arguments are
      unchanged and the counters are at zero: `Pool/Run.lean`, for any float values; the rounded kernel is the
      idealized one at other values (`Pool/Same.lean`).
    quiescent_ReferenceIdeal (with and without the precondition) — a straight line of host operations.
    preserves_Kernel_KernelIdeal — nothing was rewritten.
    algebraic_KernelIdeal_ReferenceIdeal_pre_lengths_do_not_wrap — both results are `Cert.Pool.netOut` of the arguments,
      request by request: `Pool/Result.lean` for the kernel, `Pool/Refer.lean` for the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_lengths_do_not_wrap
public import proofs.«01_k».proof.Proof.Pool.Same
public import proofs.«01_k».proof.Proof.Pool.Refer
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Pool

/-- The idealized kernel's frame, at any float values and from any memory. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (@Cert.KernelIdeal.defs F _ Cert.KernelIdeal.Gen.facts) (onTc (τ := Cert.KernelIdeal.τ) (@Cert.KernelIdeal.main F _ Cert.KernelIdeal.Gen.facts))
      ⟨m, fun _ => 0, ρ⟩ (fun r => Cert.KernelIdeal.Pool.Kept m r.2.mem ∧ r.2.sem = fun _ => 0) :=
  (θ_run Cert.KernelIdeal.defs _ _).mono (fun _ h => ⟨h.1, h.2.2⟩) (Cert.KernelIdeal.Pool.run_all m ρ)

/-- The rounded kernel's programs are the idealized one's. -/
theorem frame_rounded {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (@Cert.Kernel.defs F _ Cert.Kernel.Gen.facts) (onTc (τ := Cert.KernelIdeal.τ) (@Cert.Kernel.main F _ Cert.Kernel.Gen.facts))
      ⟨m, fun _ => 0, ρ⟩ (fun r => Cert.KernelIdeal.Pool.Kept m r.2.mem ∧ r.2.sem = fun _ => 0) := by
  rw [defs_same, main_same]
  exact frame_any m ρ

theorem frame_kernel : Cert.quiescent_Kernel := fun m ρ _ => frame_rounded (F := Bits) m ρ
theorem frame_ideal : Cert.quiescent_KernelIdeal := fun m ρ _ => frame_any (F := Ideal) m ρ
theorem frame_ideal_pre : Cert.quiescent_KernelIdeal_pre_lengths_do_not_wrap := fun m ρ _ => frame_any (F := Ideal) m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Pool.run_ref (F := Ideal) m ρ)
theorem frame_ref_pre : Cert.quiescent_ReferenceIdeal_pre_lengths_do_not_wrap := fun m ρ _ => frame_ref m ρ trivial

/-- The precondition, at a request: its length is at most 2147482624. -/
theorem len_le (m : (ℓ : Loc Cert.KernelIdeal.nD Cert.KernelIdeal.τ Cert.KernelIdeal.sig) → Buf (Elt Ideal) ℓ)
    (h : Cert.Pre_KernelIdeal_lengths_do_not_wrap m) (c : Dev Cert.KernelIdeal.nD) (b : Fin 16) :
    (Cert.KernelIdeal.Pool.lens m c (ix1 b)).toInt ≤ 2147482624 := by
  have e := congrFun (h c) (ix1 b)
  simp only [Cert.Pre_lengths_do_not_wrap.fn, cmpi, broadcastInDim, constantI] at e
  have e' := (ofBool_one _).mp e
  rw [BitVec.sle_iff_toInt_le] at e'
  exact e'

/-- The two programs end with equal results: for each request, `netOut` of the arguments. -/
theorem value : Cert.algebraic_KernelIdeal_ReferenceIdeal_pre_lengths_do_not_wrap := by
  intro m ρ m' ρ' hpre hagree
  refine ⟨fun c => Cert.KernelIdeal.Pool.result m c, ?_, ?_⟩
  · exact (θ_run Cert.KernelIdeal.defs _ _).mono
      (fun _ h c => ⟨(h.2.1 c).trans (Cert.KernelIdeal.Pool.final_o m c), h.1 c⟩) (Cert.KernelIdeal.Pool.run_all m ρ)
  · refine (θ_run Cert.ReferenceIdeal.defs _ _).mono (fun _ h c => ⟨(h c).1.trans ?_, (h c).2⟩)
      (Cert.ReferenceIdeal.Pool.run_ref (F := Ideal) m' ρ')
    obtain ⟨a0, a1, a2, a3, a4, a5, a6, a7, a8, a9⟩ := hagree c
    rw [a0, a1, a2, a3, a4, a5, a6, a7, a8, a9]
    funext y
    obtain ⟨b, rfl⟩ : ∃ b : Fin 16, y = ix2 b (0 : Fin 1) :=
      ⟨y 0, (ValueIdx.eq_ix2 y).trans (congrArg (fun k : Fin 1 => ix2 (y 0) k) (Subsingleton.elim (α := Fin 1) (y 1) 0))⟩
    exact (Cert.ReferenceIdeal.Pool.refOut_at _ _ _ _ _ _ _ _ _ _ b).trans
      (Cert.KernelIdeal.Pool.result_at m c (len_le m hpre c) b).symm

theorem claim : Cert.Claim :=
  ⟨Cert.Kernel.Gen.facts, Cert.KernelIdeal.Gen.facts, Cert.ReferenceIdeal.Gen.facts, Cert.Pre_lengths_do_not_wrap.Gen.facts,
    frame_kernel, frame_ideal, frame_ideal_pre, frame_ref, frame_ref_pre, trivial, value⟩

end Cert.Proof

end
